-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![2048, 256]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S2x256 : Shape := ⟨2, ![2, 256]⟩
abbrev S8x2x256 : Shape := ⟨3, ![8, 2, 256]⟩
abbrev S8 : Shape := ⟨1, ![8]⟩
abbrev S_ : Shape := ⟨0, ![]⟩
abbrev S256 : Shape := ⟨1, ![256]⟩
abbrev S1x256 : Shape := ⟨2, ![1, 256]⟩
abbrev S1x1x256 : Shape := ⟨3, ![1, 1, 256]⟩
abbrev S1 : Shape := ⟨1, ![1]⟩
abbrev S1x2x256 : Shape := ⟨3, ![1, 2, 256]⟩
abbrev S8x1x256 : Shape := ⟨3, ![8, 1, 256]⟩
abbrev S8x256 : Shape := ⟨2, ![8, 256]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .f32⟩
  | .hbm, ⟨1, _⟩ => ⟨S2x256, .f32⟩
  | .local _ .vmem, ⟨0, _⟩ => ⟨S256x256, .f32⟩
  | .local _ .vmem, ⟨1, _⟩ => ⟨S2x256, .f32⟩
  | .local _ .vmem, ⟨2, _⟩ => ⟨S8x2x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_37 : BitVec 32 := 1#32
  let v54 : BitVec 32 := Scalar.addi v2 c1_i32_37
  let c8_i32_38 : BitVec 32 := 8#32
  let v55 : BitVec 32 := Scalar.remsi v54 c8_i32_38
  let c1_i32_43 : BitVec 32 := 1#32
  let v56 : BitVec 32 := Scalar.muli v55 c1_i32_43
  let v57 : BitVec 32 := Scalar.addi c0_i32_44 v56
  v57.toNat
def k0_dev9 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_49 : BitVec 32 := 2#32
  let v66 : BitVec 32 := Scalar.addi v2 c2_i32_49
  let c8_i32_50 : BitVec 32 := 8#32
  let v67 : BitVec 32 := Scalar.remsi v66 c8_i32_50
  let c1_i32_55 : BitVec 32 := 1#32
  let v68 : BitVec 32 := Scalar.muli v67 c1_i32_55
  let v69 : BitVec 32 := Scalar.addi c0_i32_56 v68
  v69.toNat
def k0_dev10 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_61 : BitVec 32 := 3#32
  let v78 : BitVec 32 := Scalar.addi v2 c3_i32_61
  let c8_i32_62 : BitVec 32 := 8#32
  let v79 : BitVec 32 := Scalar.remsi v78 c8_i32_62
  let c1_i32_67 : BitVec 32 := 1#32
  let v80 : BitVec 32 := Scalar.muli v79 c1_i32_67
  let v81 : BitVec 32 := Scalar.addi c0_i32_68 v80
  v81.toNat
def k0_dev11 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_73 : BitVec 32 := 4#32
  let v90 : BitVec 32 := Scalar.addi v2 c4_i32_73
  let c8_i32_74 : BitVec 32 := 8#32
  let v91 : BitVec 32 := Scalar.remsi v90 c8_i32_74
  let c1_i32_79 : BitVec 32 := 1#32
  let v92 : BitVec 32 := Scalar.muli v91 c1_i32_79
  let v93 : BitVec 32 := Scalar.addi c0_i32_80 v92
  v93.toNat
def k0_dev12 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_85 : BitVec 32 := 5#32
  let v102 : BitVec 32 := Scalar.addi v2 c5_i32_85
  let c8_i32_86 : BitVec 32 := 8#32
  let v103 : BitVec 32 := Scalar.remsi v102 c8_i32_86
  let c1_i32_91 : BitVec 32 := 1#32
  let v104 : BitVec 32 := Scalar.muli v103 c1_i32_91
  let v105 : BitVec 32 := Scalar.addi c0_i32_92 v104
  v105.toNat
def k0_dev13 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_97 : BitVec 32 := 6#32
  let v114 : BitVec 32 := Scalar.addi v2 c6_i32_97
  let c8_i32_98 : BitVec 32 := 8#32
  let v115 : BitVec 32 := Scalar.remsi v114 c8_i32_98
  let c1_i32_103 : BitVec 32 := 1#32
  let v116 : BitVec 32 := Scalar.muli v115 c1_i32_103
  let v117 : BitVec 32 := Scalar.addi c0_i32_104 v116
  v117.toNat
def k0_dev14 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_109 : BitVec 32 := 7#32
  let v126 : BitVec 32 := Scalar.addi v2 c7_i32_109
  let c8_i32_110 : BitVec 32 := 8#32
  let v127 : BitVec 32 := Scalar.remsi v126 c8_i32_110
  let c1_i32_115 : BitVec 32 := 1#32
  let v128 : BitVec 32 := Scalar.muli v127 c1_i32_115
  let v129 : BitVec 32 := Scalar.addi c0_i32_116 v128
  v129.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x256 : Shape := ⟨2, ![2048, 256]⟩
abbrev S_ : Shape := ⟨0, ![]⟩
abbrev S256 : Shape := ⟨1, ![256]⟩
abbrev S1x256 : Shape := ⟨2, ![1, 256]⟩
abbrev S2x256 : Shape := ⟨2, ![2, 256]⟩

abbrev nBuf : Space → Nat
  | .hbm => 12
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .i32⟩
  | .hbm, ⟨2, _⟩ => ⟨S_, .f32⟩
  | .hbm, ⟨3, _⟩ => ⟨S_, .i32⟩
  | .hbm, ⟨4, _⟩ => ⟨S256, .f32⟩
  | .hbm, ⟨5, _⟩ => ⟨S256, .i32⟩
  | .hbm, ⟨6, _⟩ => ⟨S256, .f32⟩
  | .hbm, ⟨7, _⟩ => ⟨S_, .f32⟩
  | .hbm, ⟨8, _⟩ => ⟨S256, .f32⟩
  | .hbm, ⟨9, _⟩ => ⟨S1x256, .f32⟩
  | .hbm, ⟨10, _⟩ => ⟨S1x256, .f32⟩
  | .hbm, ⟨11, _⟩ => ⟨S2x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Slots.lean ====
/- # The gather buffer, its eight slots and the semaphores of the exchange

The kernel keeps an 8 × 2 × 256 buffer on every device. Slot `k` of it is the 2 × 256 block at leading coordinate `k`:
slot 0 is written by the device itself, slot `k ≥ 1` by the device `k` places before it. This module names the slots as
the program does, says which elements they hold, and says what a copy from slot 0 to slot `k` leaves there. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.PointwiseCore

@[expose] public section

noncomputable section

namespace Cert.Exchange

open Cert.KernelIdeal Cert.KernelIdeal.Gen
open Idealize.ShloMosaic Idealize.ShloMosaic.TcCoe

/-! ## Places on the mesh -/

/-- The device `j + 1` places after `c`. -/
def up (c : Dev nD) (j : Fin 7) : Dev nD := ⟨(c.val + (j.val + 1)) % 8, Nat.mod_lt _ (by decide)⟩

/-- The device whose data slot `k` of device `c` ends up holding: `k` places before `c`. -/
def src (c : Dev nD) (k : Fin 8) : Dev nD := ⟨(c.val + (8 - k.val)) % 8, Nat.mod_lt _ (by decide)⟩

/-- Going up by a hop and then by its reverse comes back. -/
theorem up_rev (c : Dev nD) (j : Fin 7) : up (up c j) j.rev = c := by revert c j; decide
theorem up_rev' (c : Dev nD) (j : Fin 7) : up (up c j.rev) j = c := by revert c j; decide
theorem src_zero (c : Dev nD) : src c 0 = c := by revert c; decide
theorem src_up (c : Dev nD) (j : Fin 7) : src (up c j) j.succ = c := by revert c j; decide

/-- Hop `j`, as a permutation of the devices. -/
def hop (j : Fin 7) : Dev nD ≃ Dev nD := ⟨fun c => up c j, fun c => up c j.rev, fun c => up_rev c j, fun c => up_rev' c j⟩

/-! ## Memrefs and semaphores -/

abbrev xM : Memref sig .tc .vmem S256x256 .f32 := Memref.whole cc0_stg0_0
abbrev oM : Memref sig .tc .vmem S2x256 .f32 := Memref.whole cc0_stg1_0
abbrev gM : Memref sig .tc .vmem S8x2x256 .f32 := Memref.whole cc0_scratch0

theorem slot_inb (k : Fin 8) : ∀ a, (![k.val, 0, 0] : Fin 3 → Nat) a + S1x2x256.size a ≤ S8x2x256.size a := by
  revert k; decide

abbrev slotRect (k : Fin 8) : Rect S8x2x256 := Rect.unit (s := S8x2x256) ![k.val, 0, 0] S1x2x256.size (slot_inb k)

/-- Slot `k` of the gather buffer, as the program slices it. -/
abbrev slotM (k : Fin 8) : Memref sig .tc .vmem S2x256 .f32 :=
  (gM.slice (slotRect k) (fun _ => rfl)).squeeze S2x256 squeezes_S1x2x256_S2x256

theorem sem_inb (k : Fin 8) : ∀ a, (![k.val] : Fin 1 → Nat) a + S1.size a ≤ S8.size a := by revert k; decide

/-- Number `k` of an array of eight DMA semaphores, as the program slices it. -/
abbrev semAt (a : DmaSems sig S8) (k : Fin 8) : DmaSem sig :=
  ((a.slice (Rect.unit (s := S8) ![k.val] S1.size (sem_inb k))).squeeze S_ squeezes_S1_S_).sem

abbrev barS : Sem sig := (SemArray.scalar (sig.barrier 0 rfl) : Sems sig S_).sem
abbrev sendS (j : Fin 7) : DmaSem sig := semAt cc0_scratch1 j.succ
abbrev recvS (j : Fin 7) : DmaSem sig := semAt cc0_scratch2 j.succ

theorem sendS_val (j : Fin 7) : (sendS j).val = 3 + j.val := by revert j; decide
theorem recvS_val (j : Fin 7) : (recvS j).val = 11 + j.val := by revert j; decide

/-! ## The elements of a slot -/

theorem mem_slot (k : Fin 8) (i : S8x2x256.Idx) : i ∈ (slotM k).view.set ↔ i 0 = k := by
  rw [Memref.set_view_squeeze, show ((gM.slice (slotRect k) (fun _ => rfl)).view.set) = (slotRect k).set from
    View.set_slice_whole cc0_scratch0 (slotRect k), Rect.mem_set_unit]
  constructor
  · intro h
    have h0 := h 0
    simp at h0
    exact Fin.ext (by omega)
  · rintro rfl a
    fin_cases a
    · simp
    · simpa using (i 1).isLt
    · simpa using (i 2).isLt

theorem slots_disjoint (k k' : Fin 8) (h : k ≠ k') : Disjoint (slotM k).view.set (slotM k').view.set :=
  Finset.disjoint_left.mpr fun i hi hi' => h (((mem_slot k i).mp hi).symm.trans ((mem_slot k' i).mp hi'))

/-- The elements of slot `k`. -/
abbrev slotSet (k : Fin 8) : Finset S8x2x256.Idx := (slotM k).view.set

theorem slots_cover : (Finset.univ : Finset (Fin 8)).biUnion slotSet = Finset.univ :=
  Finset.eq_univ_of_forall fun i => Finset.mem_biUnion.mpr ⟨i 0, Finset.mem_univ _, (mem_slot _ i).mpr rfl⟩

/-- Where entry `(r, l)` of slot `k` lies in the buffer. -/
theorem slot_emb (k : Fin 8) (r : Fin 2) (l : Fin 256) :
    (slotM k).view.emb (ix2 r l) = (ix3 k r l : S8x2x256.Idx) := by
  have e : Shape.reshapeEquiv (s := S1x2x256) (s' := S2x256) rfl (ix2 r l) = ix3 (0 : Fin 1) r l :=
    (Shape.reshapeEquiv_cons_one (d := ![2, 256]) _ _).trans
      (funext fun a => match a with | ⟨0, _⟩ => rfl | ⟨1, _⟩ => rfl | ⟨2, _⟩ => rfl)
  show (slotRect k).emb (Shape.reshapeEquiv (s := S1x2x256) (s' := S2x256) rfl (ix2 r l)) = _
  rw [e]
  funext a
  match a with
  | ⟨0, _⟩ => exact Fin.ext (by show k.val + 1 * 0 = k.val; omega)
  | ⟨1, _⟩ => exact Fin.ext (by show 0 + 1 * r.val = r.val; omega)
  | ⟨2, _⟩ => exact Fin.ext (by show 0 + 1 * l.val = l.val; omega)

end Cert.Exchange

end
-- ==== Proof.Sched.lean ====
/- # Who owes what to whom

The schedule of the exchange. Every device has one barrier cell, seven send cells and seven receive cells, each used for
one round.

* The barrier cell of `c` gets one unit from each of the seven other devices. The unit that comes by hop `j` is paid by
  the device `j + 1` places before `c`, and brings the slot of that device which `c` is going to fill: the slot reached
  from `c` by the reverse hop.
* The receive cell `j` of `c` is paid by the copy that arrives by hop `j` and holds slot `j + 1` of `c`, filled.
* The send cell `j` of `c` is paid by `c`'s own copy by hop `j` and holds back the share of slot 0 that the copy read. -/
module

public import proofs.«01_k».proof.Proof.Slots

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

abbrev UX : Type := URounds (GSem nD τ sig) (Fin 7)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The memory at launch: any contents, all counters zero, any generator registers. -/
def s₀ : MemSt nD τ sig (Elt F) := ⟨m, fun _ => 0, ρ⟩

/-! ## The cells -/

/-- A cell of a device: its barrier cell, or one of its send cells, or one of its receive cells. -/
abbrev Cell : Type := Option (Fin 7 ⊕ Fin 7)

/-- The send and receive semaphores the exchange uses. -/
abbrev osem : Fin 7 ⊕ Fin 7 → SemLoc sig
  | .inl j => .dma (sendS j)
  | .inr j => .dma (recvS j)

abbrev csem : Cell → SemLoc sig
  | none => .reg barS
  | some a => osem a

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))
abbrev kcell (ck : Dev nD × Cell) : GSem nD τ sig := ((ck.1 : Thread nD τ), csem ck.2)

/-- What a semaphore is for. -/
inductive Use
  | bar
  | send (j : Fin 7)
  | recv (j : Fin 7)
  | idle

def use : SemLoc sig → Use
  | .reg s => if s = barS then .bar else .idle
  | .dma q =>
      if h : 3 ≤ q.val ∧ q.val < 10 then .send ⟨q.val - 3, by omega⟩
      else if h : 11 ≤ q.val ∧ q.val < 18 then .recv ⟨q.val - 11, by omega⟩
      else .idle

theorem use_bar : use (.reg barS) = .bar := by dsimp only [use]; exact if_pos rfl
theorem use_send (j : Fin 7) : use (.dma (sendS j)) = .send j := by
  have h := sendS_val j
  have hj := j.isLt
  dsimp only [use]
  rw [dif_pos (by omega)]
  exact congrArg Use.send (Fin.ext (by show (sendS j).val - 3 = _; omega))
theorem use_recv (j : Fin 7) : use (.dma (recvS j)) = .recv j := by
  have h := recvS_val j
  have hj := j.isLt
  dsimp only [use]
  rw [dif_neg (by omega), dif_pos (by omega)]
  exact congrArg Use.recv (Fin.ext (by show (recvS j).val - 11 = _; omega))

/-- The units one copy of a slot delivers. -/
abbrev N : ℕ := (slotM 0).view.dmaCredit
theorem N_pos : 0 < N := View.dmaCredit_pos _ (by decide)

/-! ## Contents -/

/-- The block of `x` on device `c`. -/
def xAt (c : Dev nD) : (cc0_stg0_0 : Ref sig .tc).ty.Contents (Elt F) :=
  (win0_0.blk (0 : Fin 1)).view.read (Elt F) ((s₀ m ρ).mem ((c : Thread nD τ).loc main_arg0))

/-- The word the kernel multiplies by 256 to number the rows of device `c`'s block. -/
abbrev place (c : Dev nD) : BitVec 32 := Scalar.remsi (Scalar.divsi (Dev.word c) 1#32) 8#32

/-- What device `c` contributes: row 0 the largest entry of each column of its block, row 1 the least row number, counted
    over all devices, at which it occurs. -/
def part (c : Dev nD) (r : Fin 2) (l : Fin 256) : Elt F .f32 :=
  if r = 0 then k0_pay6 (xAt m ρ c) (ix3 0 0 l) else k0_pay7 (place c) (xAt m ρ c) (ix3 0 0 l)

/-- The gather buffer of device `c` when everything has arrived: in slot `k` the contribution of the device `k` places
    before `c`. -/
def gat (c : Dev nD) : (cc0_scratch0 : Ref sig .tc).ty.Contents (Elt F) :=
  fun i => part m ρ (src c (i 0)) (i 1) (i 2)

/-- Slot `k` of device `c`, held at share `q`, with contents `f`. -/
def slotPts (c : Dev nD) (k : Fin 8) (q : PosShare TreeShare) (f : (cc0_scratch0 : Ref sig .tc).ty.Contents (Elt F)) : sProp 𝕄 :=
  (slotM k).view.loc (c : Thread nD τ) ↦[(slotM k).view.set]{q} f

omit [FloatOps F] in
instance slotPts_storable (c : Dev nD) (k : Fin 8) (q : PosShare TreeShare) (f) :
    BI.Storable (upEmb : UEmb _ 𝕄) (slotPts (F := F) c k q f) := by unfold slotPts; infer_instance

omit [FloatOps F] in
/-- Only the entries of the slot matter. -/
theorem slotPts_congr (c : Dev nD) (k : Fin 8) (q : PosShare TreeShare) (f g : (cc0_scratch0 : Ref sig .tc).ty.Contents (Elt F))
    (h : ∀ r l, f (ix3 k r l) = g (ix3 k r l)) : (slotPts c k q f : sProp 𝕄) = slotPts c k q g := by
  unfold slotPts
  refine pointsTo_congr fun i hi => ?_
  have e := (mem_slot k i).mp hi
  have e' := eq_ix3 (n0 := 8) (n1 := 2) (n2 := 256) i
  rw [show i 0 = k from e] at e'
  rw [e']
  exact h _ _

omit [FloatOps F] in
/-- The whole buffer is its eight slots. -/
theorem slots_whole (c : Dev nD) (f : (cc0_scratch0 : Ref sig .tc).ty.Contents (Elt F)) :
    (((c : Thread nD τ).loc cc0_scratch0) ↦{fullShare} f : sProp 𝕄) = bigSep Finset.univ fun k => slotPts c k fullShare f := by
  have h := pointsTo_biUnion (Ix := Unit) (Name := ℕ) (U := UU) (Lvl := ℕ) (ℓ := (c : Thread nD τ).loc cc0_scratch0) (q := fullShare) (f := f)
    (Finset.univ : Finset (Fin 8)) slotSet (fun k _ k' _ hk => slots_disjoint k k' hk)
  rw [slots_cover] at h
  exact h

/-! ## The schedule -/

/-- What the unit paid by hop `j` brings to the barrier cell of `c`. -/
def barPay (c : Dev nD) (j : Fin 7) : sProp 𝕄 := iprop(∃ f, slotPts (up c j.rev) j.rev.succ fullShare f)
def recvPay (c : Dev nD) (j : Fin 7) : sProp 𝕄 := slotPts c j.succ fullShare (gat m ρ c)
def sendPay (c : Dev nD) (j : Fin 7) : sProp 𝕄 := slotPts c 0 (Transfers.shareTok fullShare 7 j) (gat m ρ c)

def dutiesOf : Use → Finset (Fin 7)
  | .bar => Finset.univ
  | .send _ => {0}
  | .recv _ => {0}
  | .idle => ∅

def amountOf : Use → ℕ
  | .bar => 1
  | _ => N

def payOf (c : Dev nD) (d : Fin 7) : Use → sProp 𝕄
  | .bar => barPay c d
  | .send j => sendPay m ρ c j
  | .recv j => recvPay m ρ c j
  | .idle => iprop(emp)

/-- The schedule of all cells. -/
def Rd : Rounds.Schedule (GSem nD τ sig) (Fin 7) 𝕄 where
  duties g r := if r = 0 ∧ g.1.2 = .tc then dutiesOf (use g.2) else ∅
  unitless _ := False
  amount g _ _ := amountOf (use g.2)
  payload g _ d := payOf m ρ g.1.1 d (use g.2)
  amount_pos g _ _ _ := by
    cases use g.2 <;> first | exact Nat.one_pos | exact N_pos

instance Rd_payload_storable (g : GSem nD τ sig) (r : ℕ) (d : Fin 7) :
    BI.Storable (upEmb : UEmb _ 𝕄) ((Rd (F := F) m ρ).payload g r d) := by
  show BI.Storable upEmb (payOf m ρ g.1.1 d (use g.2))
  cases use g.2 <;> simp only [payOf, barPay, sendPay, recvPay] <;> infer_instance

section Sched
variable (c : Dev nD) (j : Fin 7)

theorem duties_bar : (Rd (F := F) m ρ).duties (barCell c) 0 = Finset.univ := by
  dsimp only [Rd]; rw [if_pos ⟨rfl, rfl⟩, use_bar]; rfl
theorem duties_send : (Rd (F := F) m ρ).duties (sendCell c j) 0 = {0} := by
  dsimp only [Rd]; rw [if_pos ⟨rfl, rfl⟩, use_send]; rfl
theorem duties_recv : (Rd (F := F) m ρ).duties (recvCell c j) 0 = {0} := by
  dsimp only [Rd]; rw [if_pos ⟨rfl, rfl⟩, use_recv]; rfl
theorem duties_later (g : GSem nD τ sig) : ∀ r, 1 ≤ r → (Rd (F := F) m ρ).duties g r = ∅ :=
  fun r hr => by dsimp only [Rd]; exact if_neg fun h => by omega

theorem amount_bar (d : Fin 7) : (Rd (F := F) m ρ).amount (barCell c) 0 d = 1 := by dsimp only [Rd]; rw [use_bar]; rfl
theorem amount_send (d : Fin 7) : (Rd (F := F) m ρ).amount (sendCell c j) 0 d = N := by dsimp only [Rd]; rw [use_send]; rfl
theorem amount_recv (d : Fin 7) : (Rd (F := F) m ρ).amount (recvCell c j) 0 d = N := by dsimp only [Rd]; rw [use_recv]; rfl

theorem expect_bar : (Rd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send : (Rd (F := F) m ρ).expect (sendCell c j) 0 = N := by
  unfold Schedule.expect Schedule.amountOf; rw [duties_send, Finset.sum_singleton, amount_send]
theorem expect_recv : (Rd (F := F) m ρ).expect (recvCell c j) 0 = N := by
  unfold Schedule.expect Schedule.amountOf; rw [duties_recv, Finset.sum_singleton, amount_recv]

theorem payload_bar (d : Fin 7) : (Rd (F := F) m ρ).payload (barCell c) 0 d = barPay c d := by dsimp only [Rd]; rw [use_bar]; rfl
theorem payload_send (d : Fin 7) : (Rd (F := F) m ρ).payload (sendCell c j) 0 d = sendPay m ρ c j := by dsimp only [Rd]; rw [use_send]; rfl
theorem payload_recv (d : Fin 7) : (Rd (F := F) m ρ).payload (recvCell c j) 0 d = recvPay m ρ c j := by dsimp only [Rd]; rw [use_recv]; rfl

/-- What the barrier wait brings: by every hop, the slot of the device it leads to. -/
theorem rest_bar : bigSep ((Rd (F := F) m ρ).duties (barCell c) 0 \ ∅) (fun d => (Rd (F := F) m ρ).payload (barCell c) 0 d)
    = bigSep Finset.univ fun j : Fin 7 => (iprop(∃ f, slotPts (up c j) j.succ fullShare f) : sProp 𝕄) := by
  rw [Finset.sdiff_empty, duties_bar, bigSep_univ_equiv (Fin.revPerm : Equiv.Perm (Fin 7))]
  refine bigSep_congr fun d _ => ?_
  rw [payload_bar, barPay, Fin.revPerm_apply, Fin.rev_rev]
theorem rest_send : bigSep ((Rd (F := F) m ρ).duties (sendCell c j) 0 \ ∅) (fun d => (Rd (F := F) m ρ).payload (sendCell c j) 0 d) = sendPay m ρ c j := by
  rw [Finset.sdiff_empty, duties_send, bigSep_singleton, payload_send]
theorem rest_recv : bigSep ((Rd (F := F) m ρ).duties (recvCell c j) 0 \ ∅) (fun d => (Rd (F := F) m ρ).payload (recvCell c j) 0 d) = recvPay m ρ c j := by
  rw [Finset.sdiff_empty, duties_recv, bigSep_singleton, payload_recv]

end Sched

/-! ## What is owed, and in which order cells may be waited for -/

/-- The sum of `f` over the hops of a list, on top of `b`; the head of the list is the last summand. -/
def owedOn (b : CellTallies nD τ sig Unit) (f : Fin 7 → CellTallies nD τ sig Unit) : List (Fin 7) → CellTallies nD τ sig Unit
  | [] => b
  | d :: ds => owedOn b f ds + f d

/-- The seven hops in the program's order. -/
abbrev hops : List (Fin 7) := [0, 1, 2, 3, 4, 5, 6]

/-- What the copies still to be started owe to receive cells. -/
def owedR (c : Dev nD) (ds : List (Fin 7)) : CellTallies nD τ sig Unit :=
  owedOn 0 (fun j => tallyAt (recvCell (up c j) j) () N) ds
/-- Those, and what the signals still to be sent owe to barrier cells. -/
def owedB (c : Dev nD) (ds : List (Fin 7)) : CellTallies nD τ sig Unit :=
  owedOn (owedR c hops) (fun j => tallyAt (barCell (up c j)) () 1) ds
/-- What device `c` owes at launch. -/
abbrev O₀ (c : Dev nD) : CellTallies nD τ sig Unit := owedB c hops

theorem owedOn_pos {b : CellTallies nD τ sig Unit} {f : Fin 7 → CellTallies nD τ sig Unit} {ds : List (Fin 7)} {g : GSem nD τ sig} {u : Unit}
    (h : 0 < owedOn b f ds g u) : 0 < b g u ∨ ∃ d, 0 < f d g u := by
  induction ds with
  | nil => exact .inl h
  | cons d ds ih =>
    have h' : 0 < owedOn b f ds g u + f d g u := h
    rcases Nat.eq_zero_or_pos (f d g u) with hz | hp
    · exact ih (by omega)
    · exact .inr ⟨d, hp⟩

theorem tallyAt_pos {g g' : GSem nD τ sig} {u : Unit} {n : ℕ} (h : 0 < tallyAt (Ix := Unit) g () n g' u) : g' = g := by
  rw [tallyAt_apply] at h
  by_contra hn
  rw [if_neg fun h' => hn h'.1] at h
  exact Nat.lt_irrefl 0 h

theorem owedR_pos {c : Dev nD} {ds : List (Fin 7)} {g : GSem nD τ sig} {u : Unit} (h : 0 < owedR c ds g u) :
    ∃ j, g = recvCell (up c j) j := by
  rcases owedOn_pos h with h | ⟨d, h⟩
  · exact absurd h (Nat.lt_irrefl 0)
  · exact ⟨d, tallyAt_pos h⟩

theorem owedB_pos {c : Dev nD} {ds : List (Fin 7)} {g : GSem nD τ sig} {u : Unit} (h : 0 < owedB c ds g u) :
    ∃ j, g = recvCell (up c j) j ∨ g = barCell (up c j) := by
  rcases owedOn_pos h with h | ⟨d, h⟩
  · obtain ⟨j, hj⟩ := owedR_pos h; exact ⟨j, .inl hj⟩
  · exact ⟨d, .inr (tallyAt_pos h)⟩

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def levelOf : Use → ℕ
  | .bar => 1
  | .recv _ => 2
  | _ => 0
/-- Barrier cells come before receive cells; all others before both. -/
def lv (g : GSem nD τ sig) (_ : Unit) : ℕ := levelOf (use g.2)

theorem lv_bar (c : Dev nD) (u : Unit) : lv (barCell c) u = 1 := by unfold lv; rw [use_bar]; rfl
theorem lv_recv (c : Dev nD) (j : Fin 7) (u : Unit) : lv (recvCell c j) u = 2 := by unfold lv; rw [use_recv]; rfl

/-- A semaphore outside the exchange may be waited for while everything is owed. -/
theorem mayWait_stage (c : Dev nD) (q : DmaSem sig) (hq : levelOf (use (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨j, rfl | rfl⟩ := owedB_pos hg <;> exact Finset.mem_singleton_self _)
      (fun p hp => by rw [Finset.mem_singleton.mp hp]; exact le_of_eq hq)
      (fun g u hg => by
        obtain ⟨j, rfl | rfl⟩ := owedB_pos hg
        · rw [lv_recv]; decide
        · rw [lv_bar]; decide)
  · rw [MayWait_zero]; iintro -; iempintro

/-- At its barrier wait a device owes only to receive cells. -/
theorem mayWait_bar (c : Dev nD) : (levAts L lv : sProp 𝕄) ⊢ MayWait (c : Thread nD τ) (.reg barS) () (owedR c hops) :=
  MayOwe.of_cut (L := L) (lev := lv) 1 (fun p hp => by rw [Finset.mem_singleton.mp hp, L_tc]; exact Finset.mem_singleton_self _)
    (fun g u hg => by obtain ⟨j, rfl⟩ := owedR_pos hg; exact Finset.mem_singleton_self _)
    (fun p hp => by rw [Finset.mem_singleton.mp hp]; exact le_of_eq (lv_bar c _))
    (fun g u hg => by obtain ⟨j, rfl⟩ := owedR_pos hg; rw [lv_recv]; decide)

end Cert.Exchange

end
-- ==== Proof.Steps.lean ====
/- # One hop at a time

The kernel treats the seven other devices alike, one after the other: a signal to each, a copy to each, two waits for
each. Here one signal, one copy and one pair of waits are proved for any hop, as a step from the resources of a list of
hops still to do to those of its tail. -/
module

public import proofs.«01_k».proof.Proof.Sched
public import Idealize.ShloMosaic.Lib.Pipeline.BigSepL

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cell → ℕ)

abbrev 𝒱₀ : Variants := Variants.none

/-! ## What everybody knows -/

/-- Every cell's invariant, and that every cell has reached its round. -/
def records : sProp 𝕄 :=
  bigSep Finset.univ fun ck : Dev nD × Cell => iprop(cellInv ER (Rd m ρ) (K ck) (kcell ck) ∗ reached ER (kcell ck) 0)

instance records_persistent : BI.Persistent (records m ρ K) := by unfold records; infer_instance

theorem record_of (ck : Dev nD × Cell) :
    records m ρ K ⊢ iprop(cellInv ER (Rd m ρ) (K ck) (kcell ck) ∗ reached ER (kcell ck) 0) := by
  unfold records
  exact bigSep_elim (Finset.mem_univ ck)

/-! ## The landing of a copy -/

omit [FloatOps F] in
/-- A copy from slot 0 to slot `k` puts entry `(r, l)` of the one at entry `(r, l)` of the other. -/
theorem copied (k : Fin 8) (fd fs : (cc0_scratch0 : Ref sig .tc).ty.Contents (Elt F)) (r : Fin 2) (l : Fin 256) :
    (slotM k).view.write (Elt F) fd ((slotM 0).view.read (Elt F) fs) Finset.univ (ix3 k r l) = fs (ix3 0 r l) := by
  have h := View.write_emb_of_mem (Val := Elt F) (v := (slotM k).view) fd ((slotM 0).view.read (Elt F) fs) (M := Finset.univ) (x := ix2 r l)
    (Finset.mem_univ _)
  rw [slot_emb] at h
  refine h.trans ?_
  show fs ((slotM 0).view.emb (ix2 r l)) = _
  rw [slot_emb]

/-- What lands by hop `j` is what the buffer is meant to hold. -/
theorem landed (c : Dev nD) (j : Fin 7) (fd : (cc0_scratch0 : Ref sig .tc).ty.Contents (Elt F)) :
    (slotPts (up c j) j.succ fullShare ((slotM j.succ).view.write (Elt F) fd ((slotM 0).view.read (Elt F) (gat m ρ c)) Finset.univ) : sProp 𝕄)
      = slotPts (up c j) j.succ fullShare (gat m ρ (up c j)) := by
  refine slotPts_congr _ _ _ _ _ fun r l => ?_
  rw [copied]
  show part m ρ (src c 0) r l = part m ρ (src (up c j) j.succ) r l
  rw [src_zero, src_up]

/-! ## The signals -/

/-- What a device holds while the signals of `ds` are still to be sent. -/
def Signalling (c : Dev nD) (ds : List (Fin 7)) : sProp 𝕄 :=
  iprop((∃ W, owes (c : Thread nD τ) (owedB c ds) W)
    ∗ bigSepL ds fun j => iprop(dutyTok ER (barCell (up c j)) 0 j ∗ ∃ f, slotPts c j.rev.succ fullShare f))

/-- One signal: to the device of hop `j`, with the slot that device is going to fill. -/
theorem signal_step (c n : Dev nD) (j : Fin 7) (ds : List (Fin 7)) (hn : n = up c j) (a : ℤ) (ha : a = ((1 : ℕ) : ℤ))
    {α : Type} {Q : α → sProp 𝕄} {k : PUnit → Prog (TpuEff nD τ sig (Elt F) Λ₀ .tc) α} :
    iprop(records m ρ K ∗ Signalling (F := F) c (j :: ds))
      ⊢ iprop((Signalling (F := F) c ds -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) barS a) k) Q) := by
  subst hn ha
  unfold Signalling
  rw [bigSepL_cons']
  iintro ⟨#HR, ⟨%W, HO⟩, ⟨Ht, Hs⟩, Hds⟩ Hk
  ihave Hc := (record_of m ρ K (up c j, none)) $$ HR
  icases Hc with ⟨#Hi, #Hr⟩
  iapply (Rounds.wp_signal 𝒱₀ ER (Rd m ρ) (c : Thread nD τ) none (dst := (up c j : Thread nD τ)) (κ := K (up c j, none))
      (d := j) (by rw [duties_bar]; exact Finset.mem_univ _) (amount_bar m ρ (up c j) j) () (owedB c ds) rfl)
    $$ [HO Ht Hs]
  · isplitr; · iexact Hi
    isplitl [HO]; · iexact HO
    isplitl [Ht]; · iexact Ht
    isplitl [Hs]
    · rw [payload_bar]; unfold barPay; rw [up_rev]; iexact Hs
    · iexact Hr
  iintro HO
  iapply Hk
  isplitl [HO]
  · iexists W; iexact HO
  · iexact Hds

/-! ## The copies -/

/-- What a device holds while the copies of `ds` are still to be started and those of `dn` are under way. -/
def Sending (c : Dev nD) (ds dn : List (Fin 7)) : sProp 𝕄 :=
  iprop((∃ W, owes (c : Thread nD τ) (owedR c ds) W)
    ∗ (bigSepL ds fun j => iprop(dutyTok ER (sendCell c j) 0 0 ∗ dutyTok ER (recvCell (up c j) j) 0 0
        ∗ slotPts c 0 (Transfers.shareTok fullShare 7 j) (gat m ρ c) ∗ ∃ f, slotPts (up c j) j.succ fullShare f))
    ∗ bigSepL dn fun j => cred (tallyAt (sendCell c j) () N))

/-- Every slot is as large as slot 0. -/
theorem credit_slot (j : Fin 7) : (slotM j.succ).view.amount (.dma (recvS j)) = N := rfl

/-- One copy: slot 0 to slot `j + 1` of the device of hop `j`. -/
theorem send_step (c n : Dev nD) (j : Fin 7) (ds dn : List (Fin 7)) (hn : n = up c j)
    {hsc : (slotM j.succ : Memref sig (Dev.tc n : Thread nD τ).2.kind .vmem S2x256 .f32).view.ref.isScScratch = false}
    {hsrc : (slotM 0).view.WordExact} {hdst : (slotM j.succ).view.WordExact}
    {hsem : DmaTarget.Typed .vmem (.dma (recvS j)) (.remote (Dev.tc n : Thread nD τ) (slotM j.succ) (.dma (sendS j)) hsc)}
    {α : Type} {Q : α → sProp 𝕄} {k : PUnit → Prog (TpuEff nD τ sig (Elt F) Λ₀ .tc) α} :
    iprop(records m ρ K ∗ Sending m ρ c (j :: ds) dn)
      ⊢ iprop((Sending m ρ c ds (j :: dn) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM j.succ) (.dma (sendS j)) hsc) (.dma (recvS j)) hsrc hdst hsem) k) Q) := by
  subst hn
  unfold Sending
  rw [bigSepL_cons', bigSepL_cons']
  iintro ⟨#HR, ⟨%W, HO⟩, ⟨⟨Hts, Htr, Hsrc, ⟨%fd, Hdst⟩⟩, Hds⟩, Hdn⟩ Hk
  ihave Hc := (record_of m ρ K (c, some (.inl j))) $$ HR
  icases Hc with ⟨#HiS, #HrS⟩
  ihave Hc := (record_of m ρ K (up c j, some (.inr j))) $$ HR
  icases Hc with ⟨#HiR, #HrR⟩
  unfold slotPts
  iapply (Rounds.wp_send_pointsTo 𝒱₀ ER (Rd m ρ) (c : Thread nD τ) none (c' := (up c j : Thread nD τ)) (src := slotM 0)
    (dst := slotM j.succ) (sS := .dma (sendS j)) (sem := .dma (recvS j)) (κ₁ := K (c, some (.inl j))) (κ₂ := K (up c j, some (.inr j)))
    (r₁ := 0) (r₂ := 0) (d₁ := 0) (d₂ := 0) (fs := gat m ρ c) (fd := fd)
    (by rw [duties_send]; exact Finset.mem_singleton_self _) (by rw [duties_recv]; exact Finset.mem_singleton_self _)
    () () N (credit_slot j) (amount_send m ρ c j 0) (amount_recv m ρ (up c j) j 0) (owedR c ds) rfl (W := W)
    (by rw [payload_send]; exact BI.Entails.refl _)
    (by rw [payload_recv]; exact Entails.of_eq (landed m ρ c j fd))) $$ [Hsrc Hdst HO Hts Htr]
  · isplitr; · iexact HiS
    isplitr; · iexact HiR
    isplitl [Hsrc]; · iexact Hsrc
    isplitl [Hdst]; · iexact Hdst
    isplitl [HO]; · iexact HO
    isplitl [Hts]; · iexact Hts
    isplitr; · iexact HrS
    isplitl [Htr]; · iexact Htr
    iexact HrR
  iintro ⟨HC, HO⟩
  iapply Hk
  isplitl [HO]
  · iexists W; iexact HO
  isplitl [Hds]; · iexact Hds
  isplitl [HC]; · iexact HC
  iexact Hdn

/-! ## The waits -/

/-- What a device holds while the copies of `ds` are still to be waited for and those of `dn` are finished. -/
def Waiting (c : Dev nD) (ds dn : List (Fin 7)) : sProp 𝕄 :=
  iprop((∃ W, owes (c : Thread nD τ) 0 W)
    ∗ (bigSepL ds fun j => iprop(cred (tallyAt (sendCell c j) () N) ∗ cred (tallyAt (recvCell c j) () N)
        ∗ atPos ER (sendCell c j) 0 ∅ 0 ∗ atPos ER (recvCell c j) 0 ∅ 0))
    ∗ bigSepL dn fun j => iprop(sendPay m ρ c j ∗ recvPay m ρ c j ∗ semVal (sendCell c j) 0 ∗ semVal (recvCell c j) 0))

/-- The two waits of hop `j`: the share of slot 0 comes back, slot `j + 1` comes filled, and both cells are done. -/
theorem wait_step (c : Dev nD) (j : Fin 7) (ds dn : List (Fin 7))
    {h1 : (slotM j.succ).view.WordExact} {h2 : (slotM 0).view.WordExact} {h3 : (slotM 0).view.WordExact} {h4 : (slotM j.succ).view.WordExact}
    {α : Type} {Q : α → sProp 𝕄} {k : PUnit → Prog (TpuEff nD τ sig (Elt F) Λ₀ .tc) α} :
    iprop(records m ρ K ∗ Waiting m ρ c (j :: ds) dn)
      ⊢ iprop((Waiting m ρ c ds (j :: dn) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendS j) (slotM j.succ) (slotM 0) h1 h2) fun _ => .op (.waitDma2 (recvS j) (slotM 0) (slotM j.succ) h3 h4) k) Q) := by
  unfold Waiting
  rw [bigSepL_cons', bigSepL_cons']
  iintro ⟨#HR, ⟨%W, HO⟩, ⟨⟨HcS, HcR, HaS, HaR⟩, Hds⟩, Hdn⟩ Hk
  ihave Hc := (record_of m ρ K (c, some (.inl j))) $$ HR
  icases Hc with ⟨#HiS, -⟩
  ihave Hc := (record_of m ρ K (c, some (.inr j))) $$ HR
  icases Hc with ⟨#HiR, -⟩
  iapply (Rounds.wp_wait_rest_token 𝒱₀ ER (Rd m ρ) (c : Thread nD τ) none (κ := K (c, some (.inl j)))
      (wpE_waitDma2_eq 𝒱₀ (c : Thread nD τ) none Set.univ) (Set.mem_univ _) () (O := 0) (W := W) (R := 0) (m := 0) (T := ∅)
      (by rw [Nat.zero_add, expect_send])) $$ [HcS HO HaS]
  · isplitr; · iexact HiS
    isplitl [HcS]; · iexact HcS
    isplitl [HO]; · iexact HO
    isplitr; · rw [MayWait_zero]; iempintro
    iexact HaS
  iintro ⟨HO, HaS, -, Hpay⟩
  ihave HpS := (Entails.of_eq (rest_send m ρ c j)) $$ Hpay
  iapply (Rounds.wp_wait_rest_token 𝒱₀ ER (Rd m ρ) (c : Thread nD τ) none (κ := K (c, some (.inr j)))
      (wpE_waitDma2_eq 𝒱₀ (c : Thread nD τ) none Set.univ) (Set.mem_univ _) () (O := 0) (W := insert (SemLoc.dma (sendS j), ()) W)
      (R := 0) (m := 0) (T := ∅) (by rw [Nat.zero_add, expect_recv])) $$ [HcR HO HaR]
  · isplitr; · iexact HiR
    isplitl [HcR]; · iexact HcR
    isplitl [HO]; · iexact HO
    isplitr; · rw [MayWait_zero]; iempintro
    iexact HaR
  iintro ⟨HO, HaR, -, Hpay⟩
  ihave HpR := (Entails.of_eq (rest_recv m ρ c j)) $$ Hpay
  imod (Rounds.cell_close ER (Rd m ρ) (Set.mem_univ (K (c, some (.inl j)))) (fun h => h) (R := 0 + 1) (duties_later m ρ (sendCell c j))) $$ [HaS] with HzS
  · isplitr; · iexact HiS
    iexact HaS
  imod (Rounds.cell_close ER (Rd m ρ) (Set.mem_univ (K (c, some (.inr j)))) (fun h => h) (R := 0 + 1) (duties_later m ρ (recvCell c j))) $$ [HaR] with HzR
  · isplitr; · iexact HiR
    iexact HaR
  iapply Hk
  isplitl [HO]
  · iexists _; iexact HO
  isplitl [Hds]; · iexact Hds
  isplitl [HpS HpR HzS HzR]
  · isplitl [HpS]; · iexact HpS
    isplitl [HpR]; · iexact HpR
    isplitl [HzS] <;> iassumption
  iexact Hdn

end Cert.Exchange

end
-- ==== Proof.Rows.lean ====
/- # Stores row by row

The kernel fills slot 0 of the gather buffer by two stores, one row each, and its result buffer likewise. Here: what the
two stores leave, and which elements they touch. -/
module

public import proofs.«01_k».proof.Proof.Slots
public import Idealize.ShloMosaic.Lib.Pipeline.BigSepL

@[expose] public section

noncomputable section

namespace Cert.Exchange

open Cert.KernelIdeal Cert.KernelIdeal.Gen
open Idealize.ShloMosaic Idealize.ShloMosaic.TcCoe

variable {F : FTy → Type}

/-! ## The rows of slot 0 -/

theorem row_inb (r : Fin 2) : ∀ a, (![0, r.val, 0] : Fin 3 → Nat) a + S1x1x256.size a ≤ S8x2x256.size a := by
  revert r; decide

/-- Row `r` of slot 0. -/
abbrev rowRect (r : Fin 2) : Rect S8x2x256 := Rect.unit (s := S8x2x256) ![0, r.val, 0] S1x1x256.size (row_inb r)

theorem row_emb (r : Fin 2) (l : Fin 256) : (gM.access (rowRect r)).emb (ix3 0 0 l : S1x1x256.Idx) = (ix3 0 r l : S8x2x256.Idx) := by
  show (rowRect r).emb (ix3 0 0 l) = _
  funext a
  match a with
  | ⟨0, _⟩ => exact Fin.ext (by show 0 + 1 * 0 = 0; omega)
  | ⟨1, _⟩ => exact Fin.ext (by show r.val + 1 * 0 = r.val; omega)
  | ⟨2, _⟩ => exact Fin.ext (by show 0 + 1 * l.val = l.val; omega)

theorem row_set (r : Fin 2) : (gM.access (rowRect r)).set = (rowRect r).set := View.set_slice_whole cc0_scratch0 (rowRect r)

theorem mem_row (r : Fin 2) (i : S8x2x256.Idx) (h : i ∈ (gM.access (rowRect r)).set) : (i 0).val = 0 ∧ (i 1).val = r.val := by
  rw [row_set, Rect.mem_set_unit] at h
  have h0 := h 0
  have h1 := h 1
  simp at h0 h1
  exact ⟨by simpa using h0, by omega⟩

theorem row_sub (r : Fin 2) : (gM.access (rowRect r)).set ⊆ (slotM 0).view.set :=
  fun i h => (mem_slot 0 i).mpr (Fin.ext (mem_row r i h).1)

/-- After the two stores slot 0 holds the two rows stored. -/
theorem rows_stored (f : (cc0_scratch0 : Ref sig .tc).ty.Contents (Elt F)) (w0 w1 : S1x1x256.Idx → Elt F .f32) (r : Fin 2) (l : Fin 256) :
    (gM.access (rowRect 1)).write (Elt F) ((gM.access (rowRect 0)).write (Elt F) f w0 Finset.univ) w1 Finset.univ (ix3 0 r l)
      = if r = 0 then w0 (ix3 0 0 l) else w1 (ix3 0 0 l) := by
  by_cases h : r = 0
  · subst h
    rw [if_pos rfl]
    refine (View.write_of_not_mem _ _ _ fun h => ?_).trans ?_
    · exact absurd (mem_row 1 _ h).2 (by show (0 : ℕ) ≠ 1; decide)
    · have e := View.write_emb_of_mem (Val := Elt F) (v := gM.access (rowRect 0)) f w0 (M := Finset.univ) (x := (ix3 0 0 l : S1x1x256.Idx)) (Finset.mem_univ _)
      rw [row_emb] at e
      exact e
  · rw [if_neg h]
    have hr : r = 1 := by omega
    subst hr
    have e := View.write_emb_of_mem (Val := Elt F) (v := gM.access (rowRect 1)) ((gM.access (rowRect 0)).write (Elt F) f w0 Finset.univ) w1
      (M := Finset.univ) (x := (ix3 0 0 l : S1x1x256.Idx)) (Finset.mem_univ _)
    rw [row_emb] at e
    exact e

/-! ## The rows of the result -/

theorem orow_inb (r : Fin 2) : ∀ a, (![r.val, 0] : Fin 2 → Nat) a + S1x256.size a ≤ S2x256.size a := by
  revert r; decide

/-- Row `r` of the result buffer. -/
abbrev orowRect (r : Fin 2) : Rect S2x256 := Rect.unit (s := S2x256) ![r.val, 0] S1x256.size (orow_inb r)

theorem orow_emb (r : Fin 2) (l : Fin 256) : (oM.access (orowRect r)).emb (ix2 0 l : S1x256.Idx) = (ix2 r l : S2x256.Idx) := by
  show (orowRect r).emb (ix2 0 l) = _
  funext a
  match a with
  | ⟨0, _⟩ => exact Fin.ext (by show r.val + 1 * 0 = r.val; omega)
  | ⟨1, _⟩ => exact Fin.ext (by show 0 + 1 * l.val = l.val; omega)

theorem mem_orow (r : Fin 2) (i : S2x256.Idx) (h : i ∈ (oM.access (orowRect r)).set) : (i 0).val = r.val := by
  rw [show (oM.access (orowRect r)).set = (orowRect r).set from View.set_slice_whole cc0_stg1_0 (orowRect r), Rect.mem_set_unit] at h
  have h0 := h 0
  simp at h0
  omega

/-- The result buffer with rows `w0` and `w1`. -/
def twoRows (w0 w1 : S1x256.Idx → Elt F .f32) : (cc0_stg1_0 : Ref sig .tc).ty.Contents (Elt F) :=
  fun i => if (i 0).val = 0 then w0 (ix2 0 (i 1)) else w1 (ix2 0 (i 1))

theorem twoRows_at (w0 w1 : S1x256.Idx → Elt F .f32) (r : Fin 2) (l : Fin 256) :
    twoRows w0 w1 (ix2 r l) = if r = 0 then w0 (ix2 0 l) else w1 (ix2 0 l) := by
  show (if r.val = 0 then w0 (ix2 0 l) else w1 (ix2 0 l)) = _
  by_cases h : r = 0
  · exact (if_pos (congrArg Fin.val h)).trans (if_pos h).symm
  · exact (if_neg fun h' => h (Fin.ext h')).trans (if_neg h).symm

theorem orows_stored_at (f : (cc0_stg1_0 : Ref sig .tc).ty.Contents (Elt F)) (w0 w1 : S1x256.Idx → Elt F .f32) (r : Fin 2) (l : Fin 256) :
    (oM.access (orowRect 1)).write (Elt F) ((oM.access (orowRect 0)).write (Elt F) f w0 Finset.univ) w1 Finset.univ (ix2 r l)
      = if r = 0 then w0 (ix2 0 l) else w1 (ix2 0 l) := by
  by_cases h : r = 0
  · subst h
    rw [if_pos rfl]
    refine (View.write_of_not_mem _ _ _ fun h => ?_).trans ?_
    · exact absurd (mem_orow 1 _ h) (by show (0 : ℕ) ≠ 1; decide)
    · have e := View.write_emb_of_mem (Val := Elt F) (v := oM.access (orowRect 0)) f w0 (M := Finset.univ) (x := (ix2 0 l : S1x256.Idx)) (Finset.mem_univ _)
      rw [orow_emb] at e
      exact e
  · rw [if_neg h]
    have hr : r = 1 := by omega
    subst hr
    have e := View.write_emb_of_mem (Val := Elt F) (v := oM.access (orowRect 1)) ((oM.access (orowRect 0)).write (Elt F) f w0 Finset.univ) w1
      (M := Finset.univ) (x := (ix2 0 l : S1x256.Idx)) (Finset.mem_univ _)
    rw [orow_emb] at e
    exact e

/-- After the two stores the result buffer holds the two rows stored. -/
theorem orows_stored (f : (cc0_stg1_0 : Ref sig .tc).ty.Contents (Elt F)) (w0 w1 : S1x256.Idx → Elt F .f32) :
    (oM.access (orowRect 1)).write (Elt F) ((oM.access (orowRect 0)).write (Elt F) f w0 Finset.univ) w1 Finset.univ = twoRows w0 w1 := by
  funext i
  rw [eq_ix2 (n0 := 2) (n1 := 256) i]
  exact (orows_stored_at f w0 w1 _ _).trans (twoRows_at w0 w1 _ _).symm

/-! ## Whole buffers -/

theorem zeros2 : (![0, 0] : Fin 2 → Nat) = fun _ => 0 := funext fun a => by fin_cases a <;> rfl
theorem zeros3 : (![0, 0, 0] : Fin 3 → Nat) = fun _ => 0 := funext fun a => by fin_cases a <;> rfl

theorem read_x (f : (cc0_stg0_0 : Ref sig .tc).ty.Contents (Elt F)) :
    xM.view.readAt (Elt F) (Rect.unit (s := S256x256) ![0, 0] S256x256.size inb_S256x256_S256x256_0_0).toLoadRect f = f :=
  Memref.readAt_unit_zero (Elt F) cc0_stg0_0 zeros2 _ f
theorem read_gather (f : (cc0_scratch0 : Ref sig .tc).ty.Contents (Elt F)) :
    gM.view.readAt (Elt F) (Rect.unit (s := S8x2x256) ![0, 0, 0] S8x2x256.size inb_S8x2x256_S8x2x256_0_0_0).toLoadRect f = f :=
  Memref.readAt_unit_zero (Elt F) cc0_scratch0 zeros3 _ f

end Cert.Exchange

end
-- ==== Proof.Body.lean ====
/- # One device's run

A device signals the others, fills slot 0 of its gather buffer, waits until all others are there, starts seven copies,
waits for them and for the seven that come in, and combines the eight contributions. -/
module

public import proofs.«01_k».proof.Proof.Steps
public import proofs.«01_k».proof.Proof.Rows

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cell → ℕ)

/-! ## What a device starts from and ends with -/

/-- The tokens device `c` pays with and its places at its own cells. -/
def ghost (c : Dev nD) : sProp 𝕄 :=
  iprop(atPos ER (barCell c) 0 ∅ 0
    ∗ (bigSepL hops fun j => dutyTok ER (barCell (up c j)) 0 j)
    ∗ (bigSepL hops fun j => iprop(dutyTok ER (sendCell c j) 0 0 ∗ dutyTok ER (recvCell (up c j) j) 0 0))
    ∗ (bigSepL hops fun j => iprop(atPos ER (sendCell c j) 0 ∅ 0 ∗ atPos ER (recvCell c j) 0 ∅ 0)))

/-- What others owe device `c` at launch. -/
def credits (c : Dev nD) : sProp 𝕄 :=
  iprop(cred (tallyAt (barCell c) () 7) ∗ bigSepL hops fun j => cred (tallyAt (recvCell c j) () N))

def start (c : Dev nD) : sProp 𝕄 :=
  iprop((∃ K, records m ρ K ∗ ghost c) ∗ credits c ∗ levAts L lv)

/-- The whole gather buffer of device `c`. -/
abbrev gatherPts (c : Dev nD) (f : (cc0_scratch0 : Ref sig .tc).ty.Contents (Elt F)) : sProp 𝕄 :=
  ((c : Thread nD τ).loc cc0_scratch0) ↦{fullShare} f

def Φ₀ (c : Dev nD) : sProp 𝕄 := iprop(start m ρ c ∗ ∃ f, gatherPts c f)
/-- At the end: the gather buffer full, all of the exchange's counters zero. -/
def Φ₁ (c : Dev nD) : sProp 𝕄 :=
  iprop(gatherPts c (gat m ρ c) ∗ (bigSepL hops fun j => iprop(semVal (sendCell c j) 0 ∗ semVal (recvCell c j) 0)) ∗ semVal (barCell c) 0)

/-- The kernel's result on device `c`. -/
def outAt (c : Dev nD) : (cc0_stg1_0 : Ref sig .tc).ty.Contents (Elt F) := twoRows (k0_pay2 (gat m ρ c)) (k0_pay3 (gat m ρ c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

def t₀ : Fin cfg0.N := ⟨0, by rw [show cfg0.N = 1 by decide]; decide⟩
theorem fin_N (t : Fin cfg0.N) : t = t₀ := by
  obtain ⟨t, ht⟩ := t; have : cfg0.N = 1 := by decide
  exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Sharing the gather buffer out and putting it together again -/

omit [FloatOps F] in
/-- The buffer is slot 0 and the slots the hops fill, listed by the hop that asks for them. -/
theorem gather_split (c : Dev nD) (f : (cc0_scratch0 : Ref sig .tc).ty.Contents (Elt F)) :
    (gatherPts c f : sProp 𝕄) = iprop(slotPts c 0 fullShare f ∗ bigSepL hops fun j => slotPts c j.rev.succ fullShare f) := by
  unfold gatherPts
  rw [slots_whole]
  exact bigSep_univ_eq_bigSepL [0, 7, 6, 5, 4, 3, 2, 1] (by decide) (by decide) _

omit [FloatOps F] in
theorem gather_join (c : Dev nD) (f : (cc0_scratch0 : Ref sig .tc).ty.Contents (Elt F)) :
    iprop(slotPts c 0 fullShare f ∗ bigSepL [6, 5, 4, 3, 2, 1, 0] fun j : Fin 7 => slotPts c j.succ fullShare f) ⊢ (gatherPts c f : sProp 𝕄) := by
  unfold gatherPts
  rw [slots_whole]
  exact Entails.of_eq (bigSep_univ_eq_bigSepL (I := Fin 8) [0, 7, 6, 5, 4, 3, 2, 1] (by decide) (by decide)
    (fun k => slotPts c k fullShare f)).symm

/-- The list of finished hops, all seven. -/
abbrev doneHops : List (Fin 7) := [6, 5, 4, 3, 2, 1, 0]

omit [FloatOps F] in
theorem hops_univ (Φ : Fin 7 → sProp 𝕄) : bigSep Finset.univ Φ = bigSepL hops Φ := bigSep_univ_eq_bigSepL hops (by decide) (by decide) Φ
omit [FloatOps F] in
theorem hops_done (Φ : Fin 7 → sProp 𝕄) : bigSepL doneHops Φ = bigSepL hops Φ :=
  (bigSep_univ_eq_bigSepL doneHops (by decide) (by decide) Φ).symm.trans (hops_univ Φ)
omit [FloatOps F] in
theorem hops_sep (Φ Ψ : Fin 7 → sProp 𝕄) : bigSepL hops (fun j => iprop(Φ j ∗ Ψ j)) = iprop(bigSepL hops Φ ∗ bigSepL hops Ψ) := by
  rw [← hops_univ, ← hops_univ, ← hops_univ, bigSep_sep']

omit [FloatOps F] in
/-- Slot 0 as a share for each copy and a rest. -/
theorem slot_shares (c : Dev nD) (f : (cc0_scratch0 : Ref sig .tc).ty.Contents (Elt F)) :
    (slotPts c 0 fullShare f : sProp 𝕄)
      ⊣⊢ iprop(slotPts c 0 (Transfers.shareDrop fullShare 7) f ∗ bigSepL hops fun j => slotPts c 0 (Transfers.shareTok fullShare 7 j) f) := by
  rw [← hops_univ]
  unfold slotPts
  exact Transfers.pointsTo_toks fullShare 7

/-! ## The run -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(((records m ρ K ∗ ghost c) ∗ credits c ∗ levAts L lv ∗ ∃ f, gatherPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xAt m ρ c) ∗ stg c cc0_stg1_0 (outAt m ρ c))

/-- Nothing signalled yet. -/
theorem signalling_intro (c : Dev nD) (f : (cc0_scratch0 : Ref sig .tc).ty.Contents (Elt F)) (W : Waits sig Unit) :
    iprop(owes (c : Thread nD τ) (O₀ c) W ∗ (bigSepL hops fun j => dutyTok ER (barCell (up c j)) 0 j)
        ∗ bigSepL hops fun j => slotPts c j.rev.succ fullShare f)
      ⊢ Signalling (F := F) c hops := by
  unfold Signalling
  rw [hops_sep]
  iintro ⟨HO, Ht, Hs⟩
  isplitl [HO]; · iexists W; iexact HO
  isplitl [Ht]; · iexact Ht
  iapply (bigSepL_mono fun j _ => (show slotPts c j.rev.succ fullShare f ⊢ iprop(∃ f, slotPts c j.rev.succ fullShare f) from by
    iintro H; iexists f; iexact H))
  iexact Hs

/-- Slot 0 after the two stores. -/
theorem slot_filled (c : Dev nD) (f : (cc0_scratch0 : Ref sig .tc).ty.Contents (Elt F)) :
    ((gM.access (rowRect 1)).loc (c : Thread nD τ) ↦[(slotM 0).view.set]{fullShare}
      (gM.access (rowRect 1)).write (Elt F) ((gM.access (rowRect 0)).write (Elt F) f (k0_pay6 (xAt m ρ c)) Finset.univ)
        (k0_pay7 (place c) (xAt m ρ c)) Finset.univ : sProp 𝕄)
      ⊢ slotPts c 0 fullShare (gat m ρ c) := by
  refine Entails.of_eq (slotPts_congr (F := F) c 0 fullShare _ (gat m ρ c) fun r l => ?_)
  rw [rows_stored]
  show _ = part m ρ (src c 0) r l
  rw [src_zero]
  rfl

/-- No copy started yet. -/
theorem sending_intro (c : Dev nD) (W : Waits sig Unit) :
    iprop(owes (c : Thread nD τ) (owedR c hops) W
        ∗ (bigSepL hops fun j => iprop(dutyTok ER (sendCell c j) 0 0 ∗ dutyTok ER (recvCell (up c j) j) 0 0))
        ∗ (bigSepL hops fun j => slotPts c 0 (Transfers.shareTok fullShare 7 j) (gat m ρ c))
        ∗ bigSep Finset.univ fun j : Fin 7 => iprop(∃ f, slotPts (up c j) j.succ fullShare f))
      ⊢ Sending m ρ c hops [] := by
  unfold Sending
  rw [hops_univ]
  simp only [hops_sep]
  iintro ⟨HO, ⟨Ht, Ht'⟩, Hs, Hd⟩
  isplitl [HO]; · iexists W; iexact HO
  isplitr []
  · isplitl [Ht]; · iexact Ht
    isplitl [Ht']; · iexact Ht'
    isplitl [Hs] <;> iassumption
  · rw [bigSepL_nil]; iempintro

/-- All copies started, none waited for yet. -/
theorem waiting_intro (c : Dev nD) :
    iprop(Sending m ρ c [] doneHops ∗ (bigSepL hops fun j => cred (tallyAt (recvCell c j) () N))
        ∗ (bigSepL hops fun j => iprop(atPos ER (sendCell c j) 0 ∅ 0 ∗ atPos ER (recvCell c j) 0 ∅ 0)))
      ⊢ Waiting m ρ c hops [] := by
  unfold Sending Waiting
  rw [hops_done]
  simp only [hops_sep]
  iintro ⟨⟨HO, -, Hs⟩, Hr, Ha, Ha'⟩
  isplitl [HO]; · iexact HO
  isplitr []
  · isplitl [Hs]; · iexact Hs
    isplitl [Hr]; · iexact Hr
    isplitl [Ha] <;> iassumption
  · rw [bigSepL_nil]; iempintro

/-- All copies waited for: the gather buffer is whole again and full. -/
theorem waiting_done (c : Dev nD) :
    iprop(Waiting m ρ c [] doneHops ∗ slotPts c 0 (Transfers.shareDrop fullShare 7) (gat m ρ c))
      ⊢ iprop((∃ W, owes (c : Thread nD τ) 0 W) ∗ gatherPts c (gat m ρ c)
          ∗ bigSepL hops fun j => iprop(semVal (sendCell c j) 0 ∗ semVal (recvCell c j) 0)) := by
  unfold Waiting
  rw [hops_done]
  simp only [hops_sep]
  iintro ⟨⟨HO, -, Hs, Hr, Hz, Hz'⟩, H0⟩
  isplitl [HO]; · iexact HO
  isplitl [Hs Hr H0]
  · iapply (gather_join c (gat m ρ c))
    isplitl [Hs H0]
    · iapply (slot_shares c (gat m ρ c)).2
      isplitl [H0]; · iexact H0
      iexact Hs
    · rw [hops_done]; iexact Hr
  · isplitl [Hz] <;> iassumption

set_option maxHeartbeats 4000000 in
/-- A device's run, from what it starts with to what it ends with. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  unfold bodyPre ghost credits
  iintro ⟨⟨⟨⟨#HR, HaB, HtB, HtX, HaX⟩, ⟨HcB, HcR⟩, #Hlev, ⟨%f0, Hg⟩⟩,
    Ho, ⟨%d0, %g0, %hg0, Hx⟩, ⟨%d1, %g1, %hg1, Hout⟩⟩, Hk⟩
  have hx : g0 = xAt m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave Hg := (Entails.of_eq (gather_split c f0)) $$ Hg
  icases Hg with ⟨H0, Hslots⟩
  -- the seven signals
  ihave HS := (signalling_intro c f0 W) $$ [HO HtB Hslots]
  · isplitl [HO]; · iexact HO
    isplitl [HtB] <;> iassumption
  iapply (signal_step m ρ K c _ 0 [1, 2, 3, 4, 5, 6] (Fin.ext (k0_dev1_eq c)) _ (by decide)) $$ [HS]
  · isplitr; · iexact HR
    iexact HS
  iintro HS
  iapply (signal_step m ρ K c _ 1 [2, 3, 4, 5, 6] (Fin.ext (k0_dev2_eq c)) _ (by decide)) $$ [HS]
  · isplitr; · iexact HR
    iexact HS
  iintro HS
  iapply (signal_step m ρ K c _ 2 [3, 4, 5, 6] (Fin.ext (k0_dev3_eq c)) _ (by decide)) $$ [HS]
  · isplitr; · iexact HR
    iexact HS
  iintro HS
  iapply (signal_step m ρ K c _ 3 [4, 5, 6] (Fin.ext (k0_dev4_eq c)) _ (by decide)) $$ [HS]
  · isplitr; · iexact HR
    iexact HS
  iintro HS
  iapply (signal_step m ρ K c _ 4 [5, 6] (Fin.ext (k0_dev5_eq c)) _ (by decide)) $$ [HS]
  · isplitr; · iexact HR
    iexact HS
  iintro HS
  iapply (signal_step m ρ K c _ 5 [6] (Fin.ext (k0_dev6_eq c)) _ (by decide)) $$ [HS]
  · isplitr; · iexact HR
    iexact HS
  iintro HS
  iapply (signal_step m ρ K c _ 6 [] (Fin.ext (k0_dev7_eq c)) _ (by decide)) $$ [HS]
  · isplitr; · iexact HR
    iexact HS
  iintro HS
  unfold Signalling
  icases HS with ⟨⟨%W1, HO⟩, -⟩
  -- the block is loaded and slot 0 filled
  iapply (wp_load 𝒱₀ (c : Thread nD τ) none Set.univ (m := xM) (Finset.subset_univ _)) $$ Hx; iintro Hx
  rw [read_x]
  -- REST
  unfold slotPts
  iapply (wp_load_rect 𝒱₀ (c : Thread nD τ) none Set.univ (m := gM) (r := rowRect 0) (S := (slotM 0).view.set) (row_sub 0)) $$ H0; iintro H0
  iapply (wp_store 𝒱₀ (c : Thread nD τ) none Set.univ (m := gM) (r := rowRect 0) (Mk := Finset.univ) (S := (slotM 0).view.set) (row_sub 0)) $$ H0
  iintro H0
  iapply (wp_load_rect 𝒱₀ (c : Thread nD τ) none Set.univ (m := gM) (r := rowRect 1) (S := (slotM 0).view.set) (row_sub 1)) $$ H0; iintro H0
  iapply (wp_store 𝒱₀ (c : Thread nD τ) none Set.univ (m := gM) (r := rowRect 1) (Mk := Finset.univ) (S := (slotM 0).view.set) (row_sub 1)) $$ H0
  iintro H0
  ihave H0 := (slot_filled m ρ c f0) $$ H0
  ihave H0 := (slot_shares c (gat m ρ c)).1 $$ H0
  icases H0 with ⟨H0, Hsh⟩
  -- the barrier wait: every other device's slot for this one
  ihave Hb := (record_of m ρ K (c, none)) $$ HR
  icases Hb with ⟨#HiB, -⟩
  iapply (Rounds.wp_wait_rest_token 𝒱₀ ER (Rd m ρ) (c : Thread nD τ) none (κ := K (c, none))
      (wpE_semWait_eq 𝒱₀ (c : Thread nD τ) none Set.univ) (Set.mem_univ _) () (O := owedR c hops) (W := W1) (R := 0) (m := 0) (T := ∅)
      (by rw [expect_bar]; decide)) $$ [HcB HO HaB]
  · isplitr; · iexact HiB
    isplitl [HcB]; · iexact HcB
    isplitl [HO]; · iexact HO
    isplitr; · iapply (mayWait_bar c); iexact Hlev
    iexact HaB
  iintro ⟨HO, HaB, -, Hpay⟩
  ihave Hpay := (Entails.of_eq (rest_bar m ρ c)) $$ Hpay
  imod (Rounds.cell_close ER (Rd m ρ) (Set.mem_univ (K (c, none))) (fun h => h) (R := 0 + 1) (duties_later m ρ (barCell c))) $$ [HaB] with HzB
  · isplitr; · iexact HiB
    iexact HaB
  -- the seven copies
  ihave HS := (sending_intro m ρ c _) $$ [HO HtX Hsh Hpay]
  · isplitl [HO]; · iexact HO
    isplitl [HtX]; · iexact HtX
    isplitl [Hsh] <;> iassumption
  iapply (send_step m ρ K c _ 0 [1, 2, 3, 4, 5, 6] [] (Fin.ext (k0_dev8_eq c))) $$ [HS]
  · isplitr; · iexact HR
    iexact HS
  iintro HS
  iapply (send_step m ρ K c _ 1 [2, 3, 4, 5, 6] [0] (Fin.ext (k0_dev9_eq c))) $$ [HS]
  · isplitr; · iexact HR
    iexact HS
  iintro HS
  iapply (send_step m ρ K c _ 2 [3, 4, 5, 6] [1, 0] (Fin.ext (k0_dev10_eq c))) $$ [HS]
  · isplitr; · iexact HR
    iexact HS
  iintro HS
  iapply (send_step m ρ K c _ 3 [4, 5, 6] [2, 1, 0] (Fin.ext (k0_dev11_eq c))) $$ [HS]
  · isplitr; · iexact HR
    iexact HS
  iintro HS
  iapply (send_step m ρ K c _ 4 [5, 6] [3, 2, 1, 0] (Fin.ext (k0_dev12_eq c))) $$ [HS]
  · isplitr; · iexact HR
    iexact HS
  iintro HS
  iapply (send_step m ρ K c _ 5 [6] [4, 3, 2, 1, 0] (Fin.ext (k0_dev13_eq c))) $$ [HS]
  · isplitr; · iexact HR
    iexact HS
  iintro HS
  iapply (send_step m ρ K c _ 6 [] [5, 4, 3, 2, 1, 0] (Fin.ext (k0_dev14_eq c))) $$ [HS]
  · isplitr; · iexact HR
    iexact HS
  iintro HS
  -- the fourteen waits
  ihave HS := (waiting_intro m ρ c) $$ [HS HcR HaX]
  · isplitl [HS]; · iexact HS
    isplitl [HcR] <;> iassumption
  iapply (wait_step m ρ K c 0 [1, 2, 3, 4, 5, 6] []) $$ [HS]
  · isplitr; · iexact HR
    iexact HS
  iintro HS
  iapply (wait_step m ρ K c 1 [2, 3, 4, 5, 6] [0]) $$ [HS]
  · isplitr; · iexact HR
    iexact HS
  iintro HS
  iapply (wait_step m ρ K c 2 [3, 4, 5, 6] [1, 0]) $$ [HS]
  · isplitr; · iexact HR
    iexact HS
  iintro HS
  iapply (wait_step m ρ K c 3 [4, 5, 6] [2, 1, 0]) $$ [HS]
  · isplitr; · iexact HR
    iexact HS
  iintro HS
  iapply (wait_step m ρ K c 4 [5, 6] [3, 2, 1, 0]) $$ [HS]
  · isplitr; · iexact HR
    iexact HS
  iintro HS
  iapply (wait_step m ρ K c 5 [6] [4, 3, 2, 1, 0]) $$ [HS]
  · isplitr; · iexact HR
    iexact HS
  iintro HS
  iapply (wait_step m ρ K c 6 [] [5, 4, 3, 2, 1, 0]) $$ [HS]
  · isplitr; · iexact HR
    iexact HS
  iintro HS
  ihave HS := (waiting_done m ρ c) $$ [HS H0]
  · isplitl [HS] <;> iassumption
  icases HS with ⟨⟨%W2, HO⟩, Hg, Hz⟩
  -- the eight contributions are loaded and the two rows of the result stored
  iapply (wp_load 𝒱₀ (c : Thread nD τ) none Set.univ (m := gM) (Finset.subset_univ _)) $$ Hg; iintro Hg
  rw [read_gather]
  iapply (wp_load 𝒱₀ (c : Thread nD τ) none Set.univ (m := oM) (Finset.subset_univ _)) $$ Hout; iintro Hout
  iapply (wp_store 𝒱₀ (c : Thread nD τ) none Set.univ (m := oM) (r := orowRect 0) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := orowRect 1) (Mk := Finset.univ) (Finset.subset_univ _)) $$ Hout; iintro Hout
  rw [orows_stored, wp_ret]; imodintro
  iapply Hk
  unfold bodyPost Φ₁ Dat.owesAt Pipeline.owesWithin
  rw [show (dats m ρ 0 c).owed t₀.succ = 0 from rfl]
  isplitl [Hg Hz HzB]
  · isplitl [Hg]; · iexact Hg
    isplitl [Hz] <;> iassumption
  isplitl [HO]
  · iexists W2
    isplitr; · ipureintro; exact fun _ _ => Or.inl trivial
    iexact HO
  isplitl [Hx]
  · iexists _; isplitr; · (ipureintro; rfl)
    iexact Hx
  iexists _; isplitr; · (ipureintro; rfl)
  iexact Hout

end Cert.Exchange

end
-- ==== Proof.Launch.lean ====
/- # The run of all eight devices

The cells of the exchange are opened at launch, their tokens are handed to the devices that pay with them, and the
devices' runs together give the run of the program. -/
module

public import proofs.«01_k».proof.Proof.Body
public import proofs.«01_k».proof.Proof.Gen.KernelIdeal.Points
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the launch asks for it -/

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show iprop(Φ₀ m ρ c
      ∗ (dats m ρ 0 c).owesAt () t₀.castSucc
      ∗ (∃ d, stg c cc0_stg0_0 ((dats m ρ 0 c).before (0 : Fin 2) t₀ d))
      ∗ (∃ d, stg c cc0_stg1_0 ((dats m ρ 0 c).before (1 : Fin 2) t₀ d)))
    ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) cc0_scratch1 cc0_scratch2) (fun _ => bodyPost m ρ c)
  unfold Φ₀ start
  iintro ⟨⟨⟨⟨%K, HG⟩, Hc, Hl⟩, Hg⟩, Ho, Hx, Hout⟩
  iapply (sound_body m ρ K c fun _ => bodyPost m ρ c)
  unfold bodyPre
  isplitr []
  · isplitl [HG Hc Hl Hg]
    · isplitl [HG]; · iexact HG
      isplitl [Hc]; · iexact Hc
      isplitl [Hl] <;> iassumption
    isplitl [Ho]; · iexact Ho
    isplitl [Hx] <;> iassumption
  · iintro H; iexact H

/-! ## The cells and their tokens -/

theorem ownSemFacts : Pipeline.OwnSemFacts cfg0.spec osem := by decide

theorem share_eq (c : Dev nD) (w : Fin cfg0.W) : (dats m ρ 0 c).share w = fullShare := by unfold Dat.share; split <;> rfl

/-- Different cells are on different semaphores. -/
theorem csem_injective : Function.Injective csem := by
  intro a b h
  have hu := congrArg use h
  rcases a with _ | a | a <;> rcases b with _ | b | b <;>
    simp only [csem, osem, use_bar, use_send, use_recv, Use.send.injEq, Use.recv.injEq, reduceCtorEq] at hu <;>
    first | rfl | (subst hu; rfl)

theorem kcell_injective : Function.Injective (kcell : Dev nD × Cell → GSem nD τ sig) := fun a b h =>
  Prod.ext (congrArg (fun g : GSem nD τ sig => g.1.1) h) (csem_injective (congrArg Prod.snd h))

def allCells : Finset (GSem nD τ sig) := Finset.univ.map ⟨kcell, kcell_injective⟩

/-- The duties of a device's own cells: its barrier cell's seven, and one for each send and each receive cell. -/
abbrev Duty : Type := Fin 7 ⊕ (Fin 7 ⊕ Fin 7)
/-- The cell a duty belongs to, and its name there. -/
abbrev dutyAt : Duty → Cell × Fin 7
  | .inl j => (none, j)
  | .inr a => (some a, 0)
theorem dutyAt_injective : Function.Injective dutyAt := by decide

abbrev tokOf (cd : Dev nD × Duty) : GSem nD τ sig × ℕ × Fin 7 := (kcell (cd.1, (dutyAt cd.2).1), 0, (dutyAt cd.2).2)
theorem tokOf_injective : Function.Injective tokOf := fun a b h => by
  have h1 := kcell_injective (congrArg Prod.fst h)
  exact Prod.ext (congrArg (fun x : Dev nD × Cell => x.1) h1)
    (dutyAt_injective (Prod.ext (congrArg (fun x : Dev nD × Cell => x.2) h1) (congrArg (fun x : GSem nD τ sig × ℕ × Fin 7 => x.2.2) h)))

def allToks : Finset (GSem nD τ sig × ℕ × Fin 7) := Finset.univ.map ⟨tokOf, tokOf_injective⟩

/-- The element the launch starts from. -/
def u₀ : UU :=
  (initOf (Pipeline.cells cfgs cellOf_inj) (Pipeline.launchToks cfgs cellOf_inj), initOf allCells allToks)

omit [FloatOps F] in
/-- A device's cells are its barrier cell, its send cells and its receive cells. -/
theorem cells_eq (Φ : Cell → sProp 𝕄) : bigSep Finset.univ Φ
    = iprop(Φ none ∗ (bigSepL hops fun j => Φ (some (.inl j))) ∗ bigSepL hops fun j => Φ (some (.inr j))) := by
  rw [show (Finset.univ : Finset Cell) = insert none (Finset.univ.map Function.Embedding.some) by decide,
    bigSep_insert (by decide), bigSep_map, bigSep_univ_sum, hops_univ, hops_univ]
  rfl

/-- The tokens of device `c`'s own cells. -/
def toks (c : Dev nD) : sProp 𝕄 :=
  iprop((bigSepL hops fun j => dutyTok ER (barCell c) 0 j) ∗ (bigSepL hops fun j => dutyTok ER (sendCell c j) 0 0)
    ∗ bigSepL hops fun j => dutyTok ER (recvCell c j) 0 0)

/-- What the launch element gives for the cells of device `c`. -/
def G (c : Dev nD) : sProp 𝕄 :=
  iprop((bigSep Finset.univ fun k : Cell => roundState ER (Rd m ρ) (kcell (c, k)) 0)
    ∗ (bigSep Finset.univ fun k : Cell => atPos ER (kcell (c, k)) 0 ∅ 0)
    ∗ (bigSep Finset.univ fun k : Cell => reached ER (kcell (c, k)) 0) ∗ toks c)

/-- What device `c` starts its run with. -/
def G' (c : Dev nD) : sProp 𝕄 := iprop(∃ K, records m ρ K ∗ ghost c)

omit [FloatOps F] in
theorem allCells_eq (Φ : GSem nD τ sig → sProp 𝕄) :
    bigSep allCells Φ = bigSep Finset.univ fun c : Dev nD => bigSep Finset.univ fun k : Cell => Φ (kcell (c, k)) := by
  unfold allCells; rw [bigSep_map, bigSep_univ_prod]; rfl

omit [FloatOps F] in
theorem allToks_eq : bigSep allToks (fun x => (dutyTok ER x.1 x.2.1 x.2.2 : sProp 𝕄)) = bigSep Finset.univ fun c : Dev nD => toks c := by
  unfold allToks
  rw [bigSep_map, bigSep_univ_prod]
  refine bigSep_congr fun c _ => ?_
  rw [bigSep_univ_sum, bigSep_univ_sum, hops_univ, hops_univ, hops_univ]
  rfl

theorem fund_cells : BI.own (ER (initOf allCells allToks)) ⊢ (|==> bigSep Finset.univ (G m ρ) : sProp 𝕄) := by
  iintro HX
  imod (Rounds.fund ER (Rd m ρ) allCells allToks) $$ HX with ⟨Hst, Hr, Hat, Htok⟩
  imodintro
  unfold G
  simp only [bigSep_sep', ← allCells_eq (F := F) fun g => roundState ER (Rd m ρ) g 0, ← allCells_eq (F := F) fun g => atPos ER g 0 ∅ 0,
    ← allCells_eq (F := F) fun g => reached ER g 0, ← allToks_eq]
  isplitl [Hst]; · iexact Hst
  isplitl [Hat]; · iexact Hat
  isplitl [Hr] <;> iassumption

/-! ## Opening the cells -/

omit [FloatOps F] in
/-- The semaphores the kernel brings are those of the copies, -/
theorem ownSems_eq (c : Dev nD) : (Pipeline.ownSems0 (Ix := Unit) (Name := ℕ) (U := UU) (Lvl := ℕ) (Val := Elt F) (τ := τ) osem c : sProp 𝕄)
    = iprop((bigSepL hops fun j => semVal (sendCell c j) 0) ∗ bigSepL hops fun j => semVal (recvCell c j) 0) := by
  rw [← hops_univ, ← hops_univ]
  exact bigSep_univ_sum (fun k : Fin 7 ⊕ Fin 7 => (semVal ((c : Thread nD τ), osem k) 0 : sProp 𝕄))
omit [FloatOps F] in
/-- and the barrier semaphore outlives it. -/
theorem barSem_eq (c : Dev nD) : (unscopedSems0 c : sProp 𝕄) = semVal (barCell c) 0 := by
  unfold unscopedSems0; rw [bigSep_eq_bigSepL_of_eq [SemLoc.reg barS] (by decide) (by decide)]; rfl

theorem open_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cell => iprop(∃ κ : ℕ, cellInv ER (Rd m ρ) κ (kcell (c, k))))
          ∗ (bigSep Finset.univ fun k : Cell => atPos ER (kcell (c, k)) 0 ∅ 0)
          ∗ (bigSep Finset.univ fun k : Cell => reached ER (kcell (c, k)) 0) ∗ toks c) := by
  have hopen : bigSep Finset.univ (fun k : Cell => iprop(semVal (kcell (c, k)) 0 ∗ roundState ER (Rd m ρ) (kcell (c, k)) 0))
      ⊢ (|={Set.univ}=> bigSep Finset.univ fun k : Cell => iprop(∃ κ : ℕ, cellInv ER (Rd m ρ) κ (kcell (c, k))) : sProp 𝕄) :=
    (bigSep_mono fun k _ => (Rounds.body_intro ER (Rd m ρ) (kcell (c, k))).trans inv_alloc).trans (bigSep_fupd _ _)
  unfold G
  rw [ownSems_eq, barSem_eq]
  iintro ⟨⟨Hs, Hv⟩, Hb, Hst, Hat, Hr, Htok⟩
  imod hopen $$ [Hs Hv Hb Hst] with Hinv
  · rw [bigSep_sep', cells_eq fun k : Cell => semVal (kcell (c, k)) 0]
    isplitl [Hs Hv Hb]
    · isplitl [Hb]; · iexact Hb
      isplitl [Hs] <;> iassumption
    · iexact Hst
  imodintro
  isplitl [Hinv]; · iexact Hinv
  isplitl [Hat]; · iexact Hat
  isplitl [Hr] <;> iassumption

/-! ## Handing out the tokens -/

omit [FloatOps F] in
/-- What every device has for each hop, handed to the device at the other end of the hop. -/
theorem around (Φ : Dev nD → Fin 7 → sProp 𝕄) :
    (bigSep Finset.univ fun c : Dev nD => bigSepL hops fun j => Φ c j) = bigSep Finset.univ fun c : Dev nD => bigSepL hops fun j => Φ (up c j) j := by
  simp only [← hops_univ]
  rw [bigSep_univ_comm, bigSep_univ_comm fun (c : Dev nD) (j : Fin 7) => Φ (up c j) j]
  exact bigSep_congr fun j _ => bigSep_univ_equiv (hop j) fun c : Dev nD => Φ c j

omit [FloatOps F] in
/-- The places and tokens of all devices' own cells are what all devices start with. -/
theorem hand_out :
    iprop((bigSep Finset.univ fun c : Dev nD => bigSep Finset.univ fun k : Cell => atPos ER (kcell (c, k)) 0 ∅ 0)
        ∗ bigSep Finset.univ fun c : Dev nD => toks c)
      ⊢ (bigSep Finset.univ fun c : Dev nD => ghost c : sProp 𝕄) := by
  unfold toks ghost
  simp only [cells_eq, hops_sep, bigSep_sep']
  rw [around fun c j => dutyTok ER (barCell c) 0 j, around fun c j => dutyTok ER (recvCell c j) 0 0]
  iintro ⟨⟨Hb, Hs, Hv⟩, Htb, Hts, Htv⟩
  isplitl [Hb]; · iexact Hb
  isplitl [Htb]; · iexact Htb
  isplitl [Hts Htv]
  · isplitl [Hts] <;> iassumption
  isplitl [Hs] <;> iassumption

theorem share_records :
    (bigSep Finset.univ fun c : Dev nD => iprop((bigSep Finset.univ fun k : Cell => iprop(∃ κ : ℕ, cellInv ER (Rd m ρ) κ (kcell (c, k))))
          ∗ (bigSep Finset.univ fun k : Cell => atPos ER (kcell (c, k)) 0 ∅ 0)
          ∗ (bigSep Finset.univ fun k : Cell => reached ER (kcell (c, k)) 0) ∗ toks c) : sProp 𝕄)
      ⊢ bigSep Finset.univ (G' m ρ) := by
  simp only [bigSep_sep']
  rw [← bigSep_univ_prod (fun ck : Dev nD × Cell => iprop(∃ κ : ℕ, cellInv ER (Rd m ρ) κ (kcell ck))),
    ← bigSep_univ_prod (fun ck : Dev nD × Cell => (reached ER (kcell ck) 0 : sProp 𝕄))]
  iintro ⟨HI, Hat, #HR, Htok⟩
  ihave HK := (BI.bigSep_exists_pi Finset.univ (fun (ck : Dev nD × Cell) (κ : ℕ) => (cellInv ER (Rd m ρ) κ (kcell ck) : sProp 𝕄))) $$ HI
  icases HK with ⟨%K, #HI⟩
  ihave Hg := (hand_out (F := F)) $$ [Hat Htok]
  · isplitl [Hat] <;> iassumption
  have hrec : iprop((bigSep Finset.univ fun ck : Dev nD × Cell => cellInv ER (Rd m ρ) (K ck) (kcell ck))
      ∗ bigSep Finset.univ fun ck : Dev nD × Cell => reached ER (kcell ck) 0) ⊢ records m ρ K := by
    unfold records; rw [bigSep_sep']
  have hall : iprop(records m ρ K ∗ bigSep Finset.univ fun c : Dev nD => ghost c) ⊢ bigSep Finset.univ (G' m ρ) := by
    refine (sep_mono_left (BI.bigSep_of_persistent (Finset.univ : Finset (Dev nD)) (records m ρ K))).trans ?_
    rw [← bigSep_sep']
    have hc (c : Dev nD) : iprop(records m ρ K ∗ ghost c) ⊢ G' m ρ c := by
      unfold G'
      iintro H
      iexists K
      iexact H
    exact bigSep_mono fun c _ => hc c
  iapply hall
  isplitr
  · iapply hrec
    isplitl <;> iassumption
  · iexact Hg

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => open_cells m ρ c).trans (bigSep_fupd _ _)).trans (BI.fupd_mono (share_records m ρ))

/-! ## What the devices owe each other at launch -/

theorem owedOn_apply (b : CellTallies nD τ sig Unit) (f : Fin 7 → CellTallies nD τ sig Unit) (ds : List (Fin 7)) (g : GSem nD τ sig) (u : Unit) :
    owedOn b f ds g u = b g u + (ds.map fun j => f j g u).sum := by
  induction ds with
  | nil => rfl
  | cons d ds ih =>
    show owedOn b f ds g u + f d g u = _
    rw [ih, List.map_cons, List.sum_cons]; omega

theorem tally_cell (a b : Dev nD × Cell) (n : ℕ) : tallyAt (kcell b) () n (kcell a) () = n * if a = b then 1 else 0 := by
  rw [tallyAt_apply]
  by_cases h : a = b
  · subst h; rw [if_pos ⟨rfl, rfl⟩, if_pos rfl, Nat.mul_one]
  · rw [if_neg fun h' => h (kcell_injective h'.1), if_neg h]; rfl

/-- What device `d` owes to a cell. -/
theorem owed_at (d : Dev nD) (a : Dev nD × Cell) : O₀ d (kcell a) ()
    = N * (hops.map fun j => if a = (up d j, some (.inr j)) then 1 else 0).sum + (hops.map fun j => if a = (up d j, none) then 1 else 0).sum := by
  have hr (j : Fin 7) := tally_cell a (up d j, some (.inr j)) N
  have hb (j : Fin 7) := (tally_cell a (up d j, none) 1).trans (Nat.one_mul _)
  show owedOn (owedOn 0 (fun j => tallyAt (kcell (up d j, some (.inr j))) () N) hops) (fun j => tallyAt (kcell (up d j, none)) () 1) hops (kcell a) () = _
  rw [owedOn_apply, owedOn_apply]
  simp only [hr, hb, ← List.sum_map_mul_left]
  rw [show (0 : CellTallies nD τ sig Unit) (kcell a) () = 0 from rfl, Nat.zero_add]

/-- The seven others owe device `c`'s barrier cell a unit each, -/
theorem owed_bar (c : Dev nD) : ∑ d : Dev nD, O₀ d (barCell c) () = 7 := by
  have h (d : Dev nD) := owed_at d (c, none)
  have hz : ∀ c d : Dev nD, (hops.map fun j => if ((c, none) : Dev nD × Cell) = (up d j, some (.inr j)) then 1 else 0).sum = 0 := by decide
  have hs : ∀ c : Dev nD, ∑ d : Dev nD, (hops.map fun j => if ((c, none) : Dev nD × Cell) = (up d j, none) then 1 else 0).sum = 7 := by decide
  rw [Finset.sum_congr rfl fun d _ => (h d).trans (by rw [hz c d, Nat.mul_zero, Nat.zero_add])]
  exact hs c

/-- and one of them owes its receive cell `j` a whole copy. -/
theorem owed_recv (c : Dev nD) (j : Fin 7) : ∑ d : Dev nD, O₀ d (recvCell c j) () = N := by
  have h (d : Dev nD) := owed_at d (c, some (.inr j))
  have hz : ∀ (c d : Dev nD) (j : Fin 7), (hops.map fun i => if ((c, some (.inr j)) : Dev nD × Cell) = (up d i, none) then 1 else 0).sum = 0 := by decide
  have hs : ∀ (c : Dev nD) (j : Fin 7), ∑ d : Dev nD, (hops.map fun i => if ((c, some (.inr j)) : Dev nD × Cell) = (up d i, some (.inr i)) then 1 else 0).sum = 1 := by
    decide
  rw [Finset.sum_congr rfl fun d _ => (h d).trans (by rw [hz c d j, Nat.add_zero]), ← Finset.mul_sum, hs c j, Nat.mul_one]

theorem launch_credit (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

omit [FloatOps F] in
theorem creds (c : Dev nD) : (Pipeline.launchCred O₀ c : sProp 𝕄) ⊢ credits c := by
  unfold Pipeline.launchCred credits
  have hdrop (A B C : sProp 𝕄) : iprop(A ∗ B ∗ C) ⊢ iprop(A ∗ C) := by
    iintro ⟨Ha, -, Hc⟩
    isplitl [Ha] <;> iassumption
  refine (bigSep_subset (t := (Finset.univ : Finset Cell).map ⟨csem, csem_injective⟩) (Finset.subset_univ _)).trans ?_
  rw [bigSep_map, cells_eq]
  simp only [Function.Embedding.coeFn_mk, csem, osem]
  rw [launch_credit (barCell c) 7 (owed_bar c)]
  simp only [launch_credit (recvCell c _) N (owed_recv c _)]
  exact hdrop _ _ _

/-! ## Entering and leaving the kernel -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hg⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems_eq, barSem_eq]
  unfold Φ₁
  rw [hops_sep]
  iintro ⟨Hg, Hs, Hb⟩
  isplitl [Hb]; · iexact Hb
  isplitl [Hs]; · iexact Hs
  iexists (gat m ρ c)
  iexact Hg

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the array of a window holds at the end. -/
def finalA (c : Dev nD) (w : Fin cfg0.W) : Buf (Elt F) ((cfg0.win w).arr.view.loc (c : Thread nD τ)) := (dats m ρ 0 c).arrAt w cfg0.N

set_option maxRecDepth 8000 in
/-- Every run of the program ends, with the arrays as computed and all counters zero. -/
theorem run_arrays : θ_run defs (onTc (τ := τ) (main (F := F))) (s₀ m ρ) (fun r =>
    (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block of `x` is the whole of the device's array. -/
theorem xAt_eq (c : Dev nD) : xAt m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The argument is unchanged, -/
theorem final_arg (c : Dev nD) : finalA m ρ c (0 : Fin 2) = m ((c : Thread nD τ).loc main_arg0) :=
  (dats (F := F) m ρ 0 c).arrAt_in (0 : Fin 2) rfl _

/-- and the result array holds the kernel's result. -/
theorem final_res (c : Dev nD) : finalA m ρ c (1 : Fin 2) = outAt m ρ c := by
  have ho : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1),
      if_pos (flush0_1 (0 : Fin 1))]
    exact View.read_write_univ _ _
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  exact (hr _).symm.trans ho

/-- From any memory with all counters zero, every run of the program on eight devices ends; then on every device the
    argument is unchanged, the result is `outAt`, and all counters are zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = outAt m ρ c) ∧ r.2.sem = fun _ => 0) :=
  (θ_run defs _ _).mono (fun _ h => ⟨fun c => ⟨(h.1 c (0 : Fin 2)).trans (final_arg m ρ c), (h.1 c (1 : Fin 2)).trans (final_res m ρ c)⟩, h.2⟩)
    (run_arrays m ρ)

end Cert.Exchange

end
-- ==== Proof.Reference.lean ====
/- # The run of the reference

The reference is a line of array operations on one device. Its run leaves the argument as it was and the result at a
term of it. -/
module

public import proofs.«01_k».proof.Proof.Gen.ReferenceIdeal
public import Idealize.ShloMosaic.Lib.StableHlo.Run
public import Idealize.ShloMosaic.Lib.Tactic
public import Idealize.ShloMosaic.Lib.Quiescent

@[expose] public section

noncomputable section

namespace Cert.Whole

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-- Minus infinity, as the start of the maxima. -/
abbrev low : (⟨S_, .f32⟩ : BufTy).Contents (Elt F) := constant S_ .f32 0xFF800000#32

/-- The index of the maximum of each column. -/
def argOf (x : (⟨S2048x256, .f32⟩ : BufTy).Contents (Elt F)) : (⟨S256, .i32⟩ : BufTy).Contents (Elt F) :=
  fun j => (Host.argReduce reducer_argmax_f32_i32 x (iotaInDim S2048x256 32 0) (low (F := F)) (constantI S_ 32 0#32)
    reducesTo_S2048x256_S256_d0 h_S_ j).2

/-- The maximum of each column. -/
def maxOf (x : (⟨S2048x256, .f32⟩ : BufTy).Contents (Elt F)) : (⟨S256, .f32⟩ : BufTy).Contents (Elt F) :=
  Host.reduce FloatOps.maximumf x (low (F := F)) reducesTo_S2048x256_S256_d0 h_S_

/-- Two rows, one above the other. -/
def stack (a b : (⟨S1x256, .f32⟩ : BufTy).Contents (Elt F)) : (⟨S2x256, .f32⟩ : BufTy).Contents (Elt F) :=
  concatenate S2x256 0 [⟨S1x256, a⟩, ⟨S1x256, b⟩] concatenates_S1x256_S1x256_S2x256_d0

/-- The result: the maxima, and below them their indices. -/
def result (x : (⟨S2048x256, .f32⟩ : BufTy).Contents (Elt F)) : (⟨S2x256, .f32⟩ : BufTy).Contents (Elt F) :=
  stack (broadcastInDim S1x256 ![1] bcast_S256_S1x256_1 (maxOf x))
    (broadcastInDim S1x256 ![1] bcast_S256_S1x256_1 (sitofp .f32 (argOf (F := F) x)))

/-- The operations of the reference, in order. -/
abbrev ops : List (HloOp τ sig (Elt F)) :=
  [ TRef.nullary main_call0.v0 (iotaInDim S2048x256 32 0),
    TRef.nullary main_call0.cst (constant S_ .f32 0xFF800000#32),
    TRef.nullary main_call0.c (constantI S_ 32 0#32),
    TRef.quaternary (.of main_arg0) main_call0.v0 main_call0.cst main_call0.c main_call0.v1_0
      (fun x y u v j => (Host.argReduce reducer_argmax_f32_i32 x y u v reducesTo_S2048x256_S256_d0 h_S_ j).1),
    TRef.quaternary (.of main_arg0) main_call0.v0 main_call0.cst main_call0.c main_call0.v1_1
      (fun x y u v j => (Host.argReduce reducer_argmax_f32_i32 x y u v reducesTo_S2048x256_S256_d0 h_S_ j).2),
    unary main_v0 main_v1 (sitofp .f32 : (⟨S256, .i32⟩ : BufTy).Contents (Elt F) → (⟨S256, .f32⟩ : BufTy).Contents (Elt F)),
    nullary main_cst (constant S_ .f32 0xFF800000#32),
    binary main_arg0 main_cst main_v2 ((fun x v => Host.reduce FloatOps.maximumf x v reducesTo_S2048x256_S256_d0 h_S_) :
      (⟨S2048x256, .f32⟩ : BufTy).Contents (Elt F) → (⟨S_, .f32⟩ : BufTy).Contents (Elt F) → (⟨S256, .f32⟩ : BufTy).Contents (Elt F)),
    unary main_v2 main_v3 (broadcastInDim S1x256 ![1] bcast_S256_S1x256_1 :
      (⟨S256, .f32⟩ : BufTy).Contents (Elt F) → (⟨S1x256, .f32⟩ : BufTy).Contents (Elt F)),
    unary main_v1 main_v4 (broadcastInDim S1x256 ![1] bcast_S256_S1x256_1 :
      (⟨S256, .f32⟩ : BufTy).Contents (Elt F) → (⟨S1x256, .f32⟩ : BufTy).Contents (Elt F)),
    binary main_v3 main_v4 main_v5 (stack (F := F)) ]

theorem main_eq (c : Dev nD) : main (F := F) c = seq ops := by
  simp only [main, fn_argmax.body, seq, bind_assoc, pure_bind]
  rfl

theorem result_eq (V : Valuation τ sig (Elt F)) :
    after ops V (main_v5 : DevRef τ sig) = result (V (main_arg0 : DevRef τ sig)) := by
  after_results_simp
  rfl

theorem arg_eq (V : Valuation τ sig (Elt F)) : after ops V (main_arg0 : DevRef τ sig) = V (main_arg0 : DevRef τ sig) := by
  simp only [after_cons, after_nil]
  rfl

theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..,
    nullary_bufs_sub .., binary_bufs_sub .., unary_bufs_sub .., unary_bufs_sub .., binary_bufs_sub ..⟩

/-- From any memory with all counters zero, every run of the reference ends; then the argument is unchanged, the result
    is `result` of it, and all counters are zero. -/
theorem run_main (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_v5) = result (m ((c : Thread nD τ).loc main_arg0))) ∧ r.2.sem = fun _ => 0) :=
  (θ_run defs _ _).mono
    (fun r h => ⟨fun c => ⟨(h c main_arg0).trans (arg_eq _), (h c main_v5).trans (result_eq _)⟩, sem_eq_zero_of_no_sems (by decide) r.2⟩)
    (run_seq (by decide) (by decide) defs main (fun _ => ops) main_eq (fun _ => ops_sub) m ρ)

end Cert.Whole

end
-- ==== Proof.First.lean ====
/- # The first index of the largest entry

Facts about finite families of extended reals that the kernel and the reference share: a family has a first index at which
it is largest; the running maximum is the entry there; and the minimum of the indices at which it is largest, the others
replaced by a large number, is that index. -/
module

public import Mathlib.Data.EReal.Basic
public import Mathlib.Data.EReal.Operations
public import Mathlib.Data.Finset.Fold
public import Mathlib.Data.Finset.Max
public import Mathlib.Data.Fintype.Basic
public import Mathlib.Order.Fin.Basic

@[expose] public section

noncomputable section

namespace Cert.First

variable {n : ℕ}

/-- `a` is the first index at which `y` is largest. -/
structure Top (y : Fin n → EReal) (a : Fin n) : Prop where
  le : ∀ b, y b ≤ y a
  first : ∀ b, y b = y a → a ≤ b

/-- There is only one such index. -/
theorem Top.unique {y : Fin n → EReal} {a b : Fin n} (ha : Top y a) (hb : Top y b) : a = b := by
  have h : y a = y b := le_antisymm (hb.le a) (ha.le b)
  exact le_antisymm (ha.first b h.symm) (hb.first a h)

/-- A nonempty family has one. -/
theorem exists_top (hn : 0 < n) (y : Fin n → EReal) : ∃ a, Top y a := by
  obtain ⟨m, -, hm⟩ := Finset.exists_max_image (Finset.univ : Finset (Fin n)) y ⟨⟨0, hn⟩, Finset.mem_univ _⟩
  have hne : (Finset.univ.filter fun b => y b = y m).Nonempty := ⟨m, Finset.mem_filter.mpr ⟨Finset.mem_univ _, rfl⟩⟩
  obtain ⟨a, ha, hle⟩ := Finset.exists_min_image (Finset.univ.filter fun b => y b = y m) id hne
  have ha' : y a = y m := (Finset.mem_filter.mp ha).2
  exact ⟨a, fun b => (hm b (Finset.mem_univ b)).trans_eq ha'.symm,
    fun b hb => hle b (Finset.mem_filter.mpr ⟨Finset.mem_univ b, hb.trans ha'⟩)⟩

/-- The maximum, started from minus infinity, of a family with a largest entry is that entry. -/
theorem fold_max (y : Fin n → EReal) (a : Fin n) (h : ∀ b, y b ≤ y a) : Finset.univ.fold max ⊥ y = y a :=
  le_antisymm (Finset.fold_max_le (y a) |>.mpr ⟨bot_le, fun b _ => h b⟩)
    (Finset.le_fold_max (y a) |>.mpr (.inr ⟨a, Finset.mem_univ a, le_rfl⟩))

/-- Where a family is `M` take the number `g`, elsewhere the number `B`: the minimum of these is `g a` if the family is `M`
    at `a` and `g a` is below `B` and below the other numbers taken. -/
theorem fold_min (y g : Fin n → EReal) (M B : EReal) (a : Fin n) (ha : y a = M) (hg : ∀ b, y b = M → g a ≤ g b) (hB : g a ≤ B) :
    Finset.univ.fold min ⊤ (fun b => if y b = M then g b else B) = g a := by
  refine le_antisymm (Finset.fold_min_le (g a) |>.mpr (.inr ⟨a, Finset.mem_univ a, by rw [if_pos ha]⟩))
    (Finset.le_fold_min (g a) |>.mpr ⟨le_top, fun b _ => ?_⟩)
  split
  · exact hg b ‹_›
  · exact hB

/-! ## Eight blocks of 256 -/

/-- A natural number as an extended real. -/
def num (k : ℕ) : EReal := ((k : ℝ) : EReal)

theorem num_le {a b : ℕ} (h : a ≤ b) : num a ≤ num b := EReal.coe_le_coe_iff.mpr (Nat.cast_le.mpr h)

theorem num_add (a b : ℕ) : num a + num b = num (a + b) := by
  rw [num, num, num, Nat.cast_add, EReal.coe_add]

/-- The index, among all, of entry `b` of block `c`. -/
def glue (c : Fin 8) (b : Fin 256) : Fin 2048 := ⟨256 * c.val + b.val, by omega⟩

/-- Every index is that of an entry of a block. -/
theorem exists_glue (A : Fin 2048) : ∃ c b, glue c b = A :=
  ⟨⟨A.val / 256, by omega⟩, ⟨A.val % 256, by omega⟩, Fin.ext (Nat.div_add_mod A.val 256)⟩

theorem le_of_glue_le {c : Fin 8} {a b : Fin 256} (h : glue c a ≤ glue c b) : a ≤ b := by
  have h' : 256 * c.val + a.val ≤ 256 * c.val + b.val := h
  exact Fin.mk_le_mk.mpr (by omega)

/-- The largest entry of a family of 256. -/
def most (y : Fin 256 → EReal) : EReal := Finset.univ.fold max ⊥ y

/-- The least index, numbered from `o` on, at which a family of 256 is largest. -/
def least (o : EReal) (y : Fin 256 → EReal) : EReal :=
  Finset.univ.fold min ⊤ fun b => if y b = most y then num b.val + o else num 1000000000

theorem most_eq {y : Fin 256 → EReal} {a : Fin 256} (h : Top y a) : most y = y a := fold_max y a h.le

theorem least_eq (c : Fin 8) {y : Fin 256 → EReal} {a : Fin 256} (h : Top y a) : least (num (256 * c.val)) y = num (glue c a).val := by
  have hg (b : Fin 256) : num b.val + num (256 * c.val) = num (glue c b).val := by rw [num_add, Nat.add_comm]; rfl
  unfold least
  simp only [hg]
  refine fold_min y (fun b => num (glue c b).val) (most y) _ a (most_eq h).symm (fun b hb => ?_) (num_le (by omega))
  have hab : a.val ≤ b.val := h.first b (hb.trans (most_eq h))
  exact num_le (Nat.add_le_add_left hab _)

variable {X : Fin 2048 → EReal} {A : Fin 2048}

/-- No block's largest entry is above the largest of all. -/
theorem most_le (hA : Top X A) (c : Fin 8) : most (fun b => X (glue c b)) ≤ X A := by
  obtain ⟨a, ha⟩ := exists_top (by decide) fun b => X (glue c b)
  rw [most_eq ha]
  exact hA.le _

/-- Where a block's largest entry is the largest of all, the block's index is at or above the first of all. -/
theorem le_least (hA : Top X A) (c : Fin 8) (h : most (fun b => X (glue c b)) = X A) :
    num A.val ≤ least (num (256 * c.val)) fun b => X (glue c b) := by
  obtain ⟨a, ha⟩ := exists_top (by decide) fun b => X (glue c b)
  rw [least_eq c ha]
  exact num_le (hA.first _ ((most_eq ha).symm.trans h))

/-- In its own block the first of all is the first, and the largest. -/
theorem top_block {c : Fin 8} {b : Fin 256} (hA : Top X (glue c b)) : Top (fun b => X (glue c b)) b :=
  ⟨fun _ => hA.le _, fun b' hb' => le_of_glue_le (hA.first (glue c b') hb')⟩

/-- The maximum of the blocks' largest entries, the blocks taken in any order, is the largest of all. -/
theorem gather_most (hA : Top X A) (σ : Fin 8 → Fin 8) (hσ : Function.Surjective σ) :
    Finset.univ.fold max ⊥ (fun k => most fun b => X (glue (σ k) b)) = X A := by
  obtain ⟨c, b, rfl⟩ := exists_glue A
  obtain ⟨k, rfl⟩ := hσ c
  have hk : (most fun b => X (glue (σ k) b)) = X (glue (σ k) b) := most_eq (top_block hA)
  rw [fold_max (fun k => most fun b => X (glue (σ k) b)) k fun k' => (most_le hA _).trans_eq hk.symm, hk]

/-- The minimum of the indices of those blocks whose largest entry is the largest of all is the first index of all. -/
theorem gather_least (hA : Top X A) (σ : Fin 8 → Fin 8) (hσ : Function.Surjective σ) :
    Finset.univ.fold min ⊤ (fun k => if (most fun b => X (glue (σ k) b)) = X A
      then least (num (256 * (σ k).val)) (fun b => X (glue (σ k) b)) else num 1000000000) = num A.val := by
  obtain ⟨c, b, rfl⟩ := exists_glue A
  obtain ⟨k, rfl⟩ := hσ c
  have hk := least_eq (σ k) (top_block hA)
  refine (fold_min (fun k => most fun b => X (glue (σ k) b)) (fun k => least (num (256 * (σ k).val)) fun b => X (glue (σ k) b)) _ _ k
    (most_eq (top_block hA)) (fun k' h' => ?_) ?_).trans hk
  · exact hk.trans_le (le_least hA _ h')
  · exact hk.trans_le (num_le (by omega))

end Cert.First

end
-- ==== Proof.Arg.lean ====
/- # The reference's values

At the ideal instance the reference's two rows are, for each column, its largest entry and the first row at which it
occurs, as a number. -/
module

public import proofs.«01_k».proof.Proof.First
public import proofs.«01_k».proof.Proof.Reference
public import Idealize.ShloMosaic.Lib.Pointwise

@[expose] public section

noncomputable section

namespace Cert.Whole

open Cert.ReferenceIdeal Cert.ReferenceIdeal.Gen Cert.First
open Idealize.ShloMosaic

/-! ## A fold that chooses -/

/-- A fold whose step returns one of its two operands ends at `t`, if `t` is among the operands and wins against each. -/
theorem foldl_wins {α : Type} (f : α → α → α) (t : α) (hf : ∀ a b, f a b = a ∨ f a b = b) :
    ∀ (L : List α) (p : α), t ∈ p :: L → (∀ q ∈ p :: L, f q t = t ∧ f t q = t) → L.foldl f p = t
  | [], p, ht, _ => (List.mem_singleton.mp ht).symm
  | q :: L, p, ht, h => by
    have hp := h p List.mem_cons_self
    have hq := h q (List.mem_cons_of_mem _ List.mem_cons_self)
    refine foldl_wins f t hf L (f p q) ?_ fun r hr => ?_
    · rcases List.mem_cons.mp ht with rfl | ht
      · exact List.mem_cons.mpr (.inl hq.2.symm)
      · rcases List.mem_cons.mp ht with rfl | ht
        · exact List.mem_cons.mpr (.inl hp.1.symm)
        · exact List.mem_cons_of_mem _ ht
    · rcases List.mem_cons.mp hr with rfl | hr
      · rcases hf p q with e | e <;> rw [e] <;> assumption
      · exact h r (List.mem_cons_of_mem _ (List.mem_cons_of_mem _ hr))

/-! ## The step of the reference's fold -/

/-- The pair with the larger value wins, and of two with one value the one with the smaller index. -/
theorem step_eq (a b : Ideal .f32 × BitVec 32) :
    reducer_argmax_f32_i32 (F := Ideal) a b = if b.1 < a.1 ∨ a.1 = b.1 ∧ a.2.slt b.2 = true then a else b := by
  obtain ⟨x, i⟩ := a
  obtain ⟨y, j⟩ := b
  simp only [reducer_argmax_f32_i32]
  have hne : FloatOps.cmpf (F := Ideal) (φ := .f32) .une x x = 0#1 := by
    show BitVec.ofBool (decide (x ≠ x)) = 0#1
    simp
  have hgt : FloatOps.cmpf (F := Ideal) .ogt x y = BitVec.ofBool (decide (y < x)) := rfl
  have heq : FloatOps.cmpf (F := Ideal) .oeq x y = BitVec.ofBool (decide (x = y)) := rfl
  have hlt : IntOp.cmpi .slt i j = BitVec.ofBool (i.slt j) := rfl
  rw [hne, hgt, heq, hlt]
  rcases lt_trichotomy y x with h | h | h
  · have h' : x ≠ y := h.ne'
    simp [h, h', Scalar.select, IntOp.ori, IntOp.andi]
  · subst h
    cases i.slt j <;> simp [Scalar.select, IntOp.ori, IntOp.andi]
  · have h' : x ≠ y := h.ne
    simp [h.not_gt, h', Scalar.select, IntOp.ori, IntOp.andi]

/-- Of two pairs the step returns one. -/
theorem step_or (a b : Ideal .f32 × BitVec 32) :
    reducer_argmax_f32_i32 (F := Ideal) a b = a ∨ reducer_argmax_f32_i32 (F := Ideal) a b = b := by
  rw [step_eq]
  split
  · exact .inl rfl
  · exact .inr rfl

/-! ## The index of a column's maximum -/

variable (x : (⟨S2048x256, .f32⟩ : BufTy).Contents (Elt Ideal)) (l : Fin 256)

theorem low_eq (i : S_.Idx) : low (F := Ideal) i = (⊥ : EReal) := by
  show Ideal.ofBits .f32 0xFF800000#32 = ⊥
  simp [Ideal.ofBits, Ideal.ieee]

/-- The row number of an entry, as a word. -/
theorem iota_row (i : S2048x256.Idx) : iotaInDim S2048x256 32 0 i = BitVec.ofNat 32 (i 0).val := rfl

/-- The pairs of a column's fold: its entries with their row numbers. -/
theorem mem_fiber (q : Ideal .f32 × BitVec 32) :
    q ∈ Host.argReduceFiber x (iotaInDim S2048x256 32 0) reducesTo_S2048x256_S256_d0 (ix1 l)
      ↔ ∃ b : Fin 2048, q = (x (ix2 b l), BitVec.ofNat 32 b.val) := by
  have hd (i : S2048x256.Idx) : reducesTo_S2048x256_S256_d0.drop i = ix1 l ↔ i 1 = l := by
    have hv : (reducesTo_S2048x256_S256_d0.drop i 0 : Nat) = i 1 := rfl
    constructor
    · intro h
      exact Fin.ext (hv.symm.trans (by rw [h]; rfl))
    · intro h
      funext b
      have hb : b = 0 := Subsingleton.elim _ _
      subst hb
      exact Fin.ext (hv.trans (by rw [h]; rfl))
  simp only [Host.argReduceFiber, List.mem_map, List.mem_filter, List.mem_finRange, true_and, decide_eq_true_eq, hd]
  constructor
  · rintro ⟨n, hn, rfl⟩
    refine ⟨S2048x256.rowMajor.symm n 0, ?_⟩
    have e : S2048x256.rowMajor.symm n = ix2 (n0 := 2048) (n1 := 256) (S2048x256.rowMajor.symm n 0) l := by
      conv_lhs => rw [eq_ix2 (n0 := 2048) (n1 := 256) (S2048x256.rowMajor.symm n), hn]
    exact Prod.ext (congrArg x e) (iota_row _)
  · rintro ⟨b, rfl⟩
    exact ⟨S2048x256.rowMajor (ix2 b l), by rw [Equiv.symm_apply_apply]; exact ⟨rfl, Prod.ext rfl (iota_row _)⟩⟩

/-- Row numbers compare as words the way they do as numbers. -/
theorem slt_row (a b : Fin 2048) : (BitVec.ofNat 32 a.val).slt (BitVec.ofNat 32 b.val) = decide (a < b) := by
  have e (c : Fin 2048) : (BitVec.ofNat 32 c.val).toInt = c.val := by
    have hc := c.isLt
    rw [BitVec.toInt_eq_toNat_of_lt] <;> rw [BitVec.toNat_ofNat, Nat.mod_eq_of_lt] <;> omega
  rw [BitVec.slt, e, e]
  exact decide_eq_decide.mpr Int.ofNat_lt

/-- The index found is the first at which the column is largest. -/
theorem argOf_eq {A : Fin 2048} (hA : Top (fun b => x (ix2 b l)) A) : argOf (F := Ideal) x (ix1 l) = BitVec.ofNat 32 A.val := by
  have key : (Host.argReduceFiber x (iotaInDim S2048x256 32 0) reducesTo_S2048x256_S256_d0 (ix1 l)).foldl
      (reducer_argmax_f32_i32 (F := Ideal)) ((⊥ : EReal), 0#32) = (x (ix2 A l), BitVec.ofNat 32 A.val) := by
    refine foldl_wins _ _ step_or _ _ (List.mem_cons_of_mem _ ((mem_fiber x l _).mpr ⟨A, rfl⟩)) fun q hq => ?_
    rw [step_eq, step_eq]
    rcases List.mem_cons.mp hq with rfl | hq
    · rcases eq_or_ne (x (ix2 A l)) ⊥ with h | h
      · have h0 : A = 0 := Nat.le_zero.mp (hA.first 0 (le_antisymm (hA.le 0) (h.trans_le bot_le))) |> Fin.ext
        rw [h, h0]
        exact ⟨if_neg (by simp), if_neg (by simp)⟩
      · have h1 : (⊥ : EReal) < x (ix2 A l) := bot_lt_iff_ne_bot.mpr h
        exact ⟨if_neg fun h' => h'.elim not_lt_bot fun h' => h h'.1.symm, if_pos (.inl h1)⟩
    · obtain ⟨b, rfl⟩ := (mem_fiber x l q).mp hq
      have hle : x (ix2 b l) ≤ x (ix2 A l) := hA.le b
      have hf : x (ix2 b l) = x (ix2 A l) → A ≤ b := hA.first b
      simp only [slt_row, decide_eq_true_eq]
      constructor
      · exact if_neg fun h' => h'.elim hle.not_gt fun h' => (hf h'.1).not_gt h'.2
      · rcases hle.lt_or_eq with h | h
        · exact if_pos (.inl h)
        · rcases (hf h).lt_or_eq with h' | h'
          · exact if_pos (.inr ⟨h.symm, h'⟩)
          · rw [h']
            exact ite_self _
  rw [argOf, Ideal.argReduce_eq_reduce2, Host.reduce2_eq_foldl_fiber, low_eq]
  exact congrArg Prod.snd key

/-! ## The two rows -/

theorem sitofp_num (k : ℕ) (h : k < 2 ^ 31) : FloatOps.sitofp (F := Ideal) .f32 (BitVec.ofNat 32 k) = num k := by
  show (((BitVec.ofNat 32 k).toInt : ℝ) : EReal) = num k
  have e : (BitVec.ofNat 32 k).toInt = k := by
    rw [BitVec.toInt_eq_toNat_of_lt] <;> rw [BitVec.toNat_ofNat, Nat.mod_eq_of_lt] <;> omega
  rw [e, num, Int.cast_natCast]

/-- Row 0 of the result holds the largest entry of each column. -/
theorem result_zero {A : Fin 2048} (hA : Top (fun b => x (ix2 b l)) A) : result x (ix2 (0 : Fin 2) l) = x (ix2 A l) := by
  pointwise [result, stack, maxOf]
  exact (congrArg (fun b => Finset.univ.fold max b fun k => x (ix2 k l)) (low_eq ix0)).trans (fold_max (fun b => x (ix2 b l)) A hA.le)

/-- Row 1 holds the first row at which it occurs. -/
theorem result_one {A : Fin 2048} (hA : Top (fun b => x (ix2 b l)) A) : result x (ix2 (1 : Fin 2) l) = num A.val := by
  pointwise [result, stack, maxOf]
  rw [argOf_eq x l hA]
  exact sitofp_num _ (by omega)

end Cert.Whole

end
-- ==== Proof.Values.lean ====
/- # The kernel's values

At the ideal instance every device's result is the reference's result of the array whose blocks the devices hold. -/
module

public import proofs.«01_k».proof.Proof.Arg
public import proofs.«01_k».proof.Proof.Launch
public import Idealize.ShloMosaic.Lib.Pointwise
public import Idealize.ShloMosaic.Lib.LayoutAt

@[expose] public section

noncomputable section

namespace Cert.Exchange

open Cert.KernelIdeal Cert.KernelIdeal.Gen Cert.First
open Idealize.ShloMosaic Idealize.ShloMosaic.TcCoe

/-! ## The constants -/

theorem neg_inf : Ideal.ofBits .f32 0xFF800000#32 = (⊥ : EReal) := by simp [Ideal.ofBits, Ideal.ieee]

theorem pos_inf : Ideal.ofBits .f32 0x7F800000#32 = (⊤ : EReal) := by simp [Ideal.ofBits, Ideal.ieee]

/-- The number put where an entry is not the largest. -/
theorem filler : Ideal.ofBits .f32 0x4E6E6B28#32 = num 1000000000 := by
  simp [Ideal.ofBits, Ideal.ieee, num]
  norm_cast

/-- The first row number of a device's block. -/
theorem offset (c : Dev nD) : (((Scalar.muli (place c) 256#32).toInt : ℝ) : EReal) = num (256 * c.val) := by
  have e : (Scalar.muli (place c) 256#32).toInt = ((256 * c.val : ℕ) : ℤ) := by revert c; decide
  rw [e, num, Int.cast_natCast]

/-! ## A device's contribution -/

/-- The largest entry of a column of a block. -/
theorem pay6_eq (v : Vec Ideal S256x256 .f32) (l : Fin 256) : k0_pay6 v (ix3 0 0 l) = most fun b => v (ix2 b l) := by
  pointwise [k0_pay6, k0_pay5, k0_pay4]
  rw [neg_inf]
  rfl

/-- The least row number at which it occurs. -/
theorem pay7_eq (c : Dev nD) (v : Vec Ideal S256x256 .f32) (l : Fin 256) :
    k0_pay7 (place c) v (ix3 0 0 l) = least (num (256 * c.val)) fun b => v (ix2 b l) := by
  pointwise [k0_pay7, k0_pay5, k0_pay4]
  have hb (b : Fin 256) : FloatOps.sitofp (F := Ideal) .f32 (BitVec.ofNat 32 b.val) = num b.val := Cert.Whole.sitofp_num _ (by omega)
  simp only [neg_inf, pos_inf, filler, offset, hb]
  rfl

/-! ## The combination -/

theorem pay2_eq (v : Vec Ideal S8x2x256 .f32) (l : Fin 256) :
    k0_pay2 v (ix2 0 l) = Finset.univ.fold max (⊥ : EReal) fun k : Fin 8 => v (ix3 k 0 l) := by
  pointwise [k0_pay2, k0_pay1]
  rw [neg_inf]

theorem pay3_eq (v : Vec Ideal S8x2x256 .f32) (l : Fin 256) :
    k0_pay3 v (ix2 0 l) = Finset.univ.fold min (⊤ : EReal) fun k : Fin 8 =>
      if v (ix3 k 0 l) = k0_pay2 v (ix2 0 l) then v (ix3 k 1 l) else num 1000000000 := by
  rw [pay2_eq]
  pointwise [k0_pay3, k0_pay2, k0_pay1]
  simp only [neg_inf, pos_inf, filler]

/-- Every device is the source of some slot. -/
theorem src_surjective (d : Dev nD) : Function.Surjective (src d) := by
  revert d
  decide

variable (m : (ℓ : Loc nD τ sig) → Buf (Elt Ideal) ℓ) (ρ : Dev nD → PrngReg)
variable (X : (⟨Cert.ReferenceIdeal.S2048x256, .f32⟩ : BufTy).Contents (Elt Ideal))

/-- If the devices hold the blocks of `X`, every device's result is, entry by entry, the reference's of `X`. -/
theorem outAt_at (hX : ∀ (c : Dev nD) (b l : Fin 256), xAt m ρ c (ix2 b l) = X (ix2 (glue c b) l)) (d : Dev nD) (r : Fin 2)
    (l : Fin 256) : outAt m ρ d (ix2 r l) = Cert.Whole.result X (ix2 r l) := by
  have h0 (k : Fin 8) : gat m ρ d (ix3 k 0 l) = most fun b => X (ix2 (glue (src d k) b) l) := by
    refine (pay6_eq (xAt m ρ (src d k)) l).trans ?_
    simp only [hX]
  have h1 (k : Fin 8) : gat m ρ d (ix3 k 1 l) = least (num (256 * (src d k).val)) fun b => X (ix2 (glue (src d k) b) l) := by
    refine (pay7_eq (src d k) (xAt m ρ (src d k)) l).trans ?_
    simp only [hX]
  obtain ⟨A, hA⟩ := exists_top (by decide) fun b => X (ix2 b l)
  have hm : k0_pay2 (gat m ρ d) (ix2 0 l) = X (ix2 A l) := by
    refine (pay2_eq (gat m ρ d) l).trans ?_
    simp only [h0]
    exact gather_most hA (src d) (src_surjective d)
  have hi : k0_pay3 (gat m ρ d) (ix2 0 l) = num A.val := by
    refine (pay3_eq (gat m ρ d) l).trans ?_
    rw [hm]
    simp only [h0, h1]
    exact gather_least hA (src d) (src_surjective d)
  refine (twoRows_at _ _ r l).trans ?_
  match r with
  | 0 => exact hm.trans (Cert.Whole.result_zero X l hA).symm
  | 1 => exact hi.trans (Cert.Whole.result_one X l hA).symm

/-- The same of the whole result. -/
theorem outAt_eq (hX : ∀ (c : Dev nD) (b l : Fin 256), xAt m ρ c (ix2 b l) = X (ix2 (glue c b) l)) (d : Dev nD) :
    outAt m ρ d = Cert.Whole.result X := by
  funext i
  rw [eq_ix2 (n0 := 2) (n1 := 256) i]
  exact outAt_at m ρ X hX d _ _

/-- Entry `b`, `l` of block `c`, cut along the rows, is entry `256 c + b`, `l` of the whole. -/
theorem block_at (c : Fin 8) (b l : Fin 256) :
    Layout.block ⟨2, ![256, 256]⟩ ⟨2, ![2048, 256]⟩ 0 8 c X (by decide) (ix2 b l) = X (ix2 (glue c b) l) := by
  rw [Layout.block_apply]
  refine congrArg X ?_
  funext a
  match a with
  | ⟨0, _⟩ => exact Fin.ext (congrArg (· + b.val) (Nat.mul_comm c.val 256))
  | ⟨1, _⟩ => rfl

end Cert.Exchange

end
-- ==== Proof.lean ====
/- # The claims

The three programs end with their argument unchanged and all counters zero, and at the ideal instance every device's
result is the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Reference
public import proofs.«01_k».proof.Proof.Values

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts

variable {F : FTy → Type} [FloatOps F]

/-- The kernel as written and the kernel as read at the ideal instance have one table of bodies. -/
theorem bodies_eq : Cert.Kernel.defs₀ (F := F) = Cert.KernelIdeal.defs₀ (F := F) := by
  refine congrArg (Defs.onTc (nD := Cert.KernelIdeal.nD) (τ := Cert.KernelIdeal.τ) (sig := Cert.KernelIdeal.sig) (Val := Elt F)
    (Λ := Cert.KernelIdeal.Λ₀)) ?_
  funext ℓ a
  match ℓ, a with
  | 0, (t, s) => rfl

theorem defs_eq : Cert.Kernel.defs (F := F) = Cert.KernelIdeal.defs (F := F) :=
  congrArg (Pipeline.defs Cert.KernelIdeal.pcfgs) bodies_eq

/-- Every run of the kernel, on the chip's floats, ends with the argument unchanged and all counters zero. -/
theorem frame_kernel : Cert.quiescent_Kernel := fun m g _ =>
  (congrArg (fun D => θ_run D (onTc (Cert.KernelIdeal.main (F := Bits))) ⟨m, fun _ => 0, g⟩ fun r =>
    (∀ c : Dev Cert.KernelIdeal.nD, r.2.mem ((c.tc : Thread Cert.KernelIdeal.nD Cert.KernelIdeal.τ).loc Cert.KernelIdeal.main_arg0)
      = m ((c.tc : Thread Cert.KernelIdeal.nD Cert.KernelIdeal.τ).loc Cert.KernelIdeal.main_arg0)) ∧ r.2.sem = fun _ => 0) defs_eq).mpr
  ((θ_run Cert.KernelIdeal.defs _ _).mono (fun _ h => ⟨fun c => (h.1 c).1, h.2⟩) (Cert.Exchange.run_main (F := Bits) m g))

/-- So does every run of it on the extended reals. -/
theorem frame_kernelIdeal : Cert.quiescent_KernelIdeal := fun m g _ =>
  (θ_run Cert.KernelIdeal.defs _ _).mono (fun _ h => ⟨fun c => (h.1 c).1, h.2⟩) (Cert.Exchange.run_main (F := Ideal) m g)

/-- And every run of the reference. -/
theorem frame_referenceIdeal : Cert.quiescent_ReferenceIdeal := fun m g _ =>
  (θ_run Cert.ReferenceIdeal.defs _ _).mono (fun _ h => ⟨fun c => (h.1 c).1, h.2⟩) (Cert.Whole.run_main (F := Ideal) m g)

/-- Started with its blocks of the reference's argument on the devices, the kernel ends with the reference's result on
    every device. -/
theorem same_result : Cert.algebraic_KernelIdeal_ReferenceIdeal := by
  intro m g m' g' _ hb
  let X := m' (((0 : Dev Cert.ReferenceIdeal.nD).tc : Thread Cert.ReferenceIdeal.nD Cert.ReferenceIdeal.τ).loc Cert.ReferenceIdeal.main_arg0)
  have hX (c : Dev Cert.KernelIdeal.nD) (b l : Fin 256) : Cert.Exchange.xAt m g c (ix2 b l) = X (ix2 (Cert.First.glue c b) l) :=
    (congrFun ((Cert.Exchange.xAt_eq m g c).trans (hb c)) (ix2 b l)).trans (Cert.Exchange.block_at X c b l)
  have hK := Cert.Exchange.run_main (F := Ideal) m g
  have hR := Cert.Whole.run_main (F := Ideal) m' g'
  refine ⟨Cert.Whole.result (F := Ideal) X, ?_, ?_⟩
  · exact (θ_run Cert.KernelIdeal.defs _ _).mono
      (fun _ h c => ⟨(h.1 c).2.trans (Cert.Exchange.outAt_eq m g X hX c), (h.1 c).1⟩) hK
  · exact (θ_run Cert.ReferenceIdeal.defs _ _).mono (fun _ h => ⟨(h.1 0).2, (h.1 0).1⟩) hR

/-- All that is claimed. -/
theorem claim : Cert.Claim := ⟨Cert.Kernel.Gen.facts, Cert.KernelIdeal.Gen.facts, Cert.ReferenceIdeal.Gen.facts,
  frame_kernel, frame_kernelIdeal, frame_referenceIdeal, trivial, same_result⟩

end Cert.Proof

end
